-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "sixth" .f32 0x3E2AAAAB#32 ((6⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v354) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128x128x7 : Shape := ⟨3, ![128, 128, 7]⟩
abbrev S64x384 : Shape := ⟨2, ![64, 384]⟩
abbrev S64x384x7 : Shape := ⟨3, ![64, 384, 7]⟩
abbrev S128x128x1 : Shape := ⟨3, ![128, 128, 1]⟩
abbrev S1024x128 : Shape := ⟨2, ![1024, 128]⟩
abbrev S64x128 : Shape := ⟨2, ![64, 128]⟩
abbrev S64x128x7 : Shape := ⟨3, ![64, 128, 7]⟩
abbrev S64x128x1 : Shape := ⟨3, ![64, 128, 1]⟩
abbrev S128x64 : Shape := ⟨2, ![128, 64]⟩
abbrev S1024x64 : Shape := ⟨2, ![1024, 64]⟩
abbrev S1x1024x64 : Shape := ⟨3, ![1, 1024, 64]⟩
abbrev S3x1024x64 : Shape := ⟨3, ![3, 1024, 64]⟩
abbrev S400x10000 : Shape := ⟨2, ![400, 10000]⟩
abbrev S400x128 : Shape := ⟨2, ![400, 128]⟩
abbrev S400x1024 : Shape := ⟨2, ![400, 1024]⟩
abbrev S1000x10000 : Shape := ⟨2, ![1000, 10000]⟩
abbrev S1000x128 : Shape := ⟨2, ![1000, 128]⟩
abbrev S2x1000x128 : Shape := ⟨3, ![2, 1000, 128]⟩
abbrev S1x1000x128 : Shape := ⟨3, ![1, 1000, 128]⟩
abbrev S1000x1024 : Shape := ⟨2, ![1000, 1024]⟩
abbrev S10000x64 : Shape := ⟨2, ![10000, 64]⟩
abbrev S1000x64 : Shape := ⟨2, ![1000, 64]⟩

abbrev nBuf : Space → Nat
  | .hbm => 160
  | .vmem => 30
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128x128x7, .f32⟩
  | 4 => ⟨S128x128, .f32⟩
  | 5 => ⟨S128x128, .f32⟩
  | 6 => ⟨S128x128x7, .f32⟩
  | 7 => ⟨S128x128, .f32⟩
  | 8 => ⟨S64x384, .f32⟩
  | 9 => ⟨S64x384x7, .f32⟩
  | 10 => ⟨S64x384, .f32⟩
  | 11 => ⟨S128x128x1, .f32⟩
  | 12 => ⟨S128x128x7, .f32⟩
  | 13 => ⟨S128x128x7, .f32⟩
  | 14 => ⟨S128x128, .f32⟩
  | 15 => ⟨S128x128x1, .f32⟩
  | 16 => ⟨S128x128, .f32⟩
  | 17 => ⟨S128x128, .f32⟩
  | 18 => ⟨S128x128x1, .f32⟩
  | 19 => ⟨S128x128, .f32⟩
  | 20 => ⟨S128x128, .f32⟩
  | 21 => ⟨S128x128x1, .f32⟩
  | 22 => ⟨S128x128, .f32⟩
  | 23 => ⟨S128x128, .f32⟩
  | 24 => ⟨S128x128x1, .f32⟩
  | 25 => ⟨S128x128, .f32⟩
  | 26 => ⟨S128x128, .f32⟩
  | 27 => ⟨S128x128x1, .f32⟩
  | 28 => ⟨S128x128, .f32⟩
  | 29 => ⟨S128x128, .f32⟩
  | 30 => ⟨S128x128x1, .f32⟩
  | 31 => ⟨S128x128, .f32⟩
  | 32 => ⟨S128x128, .f32⟩
  | 33 => ⟨S128x128x1, .f32⟩
  | 34 => ⟨S128x128, .f32⟩
  | 35 => ⟨S128x128, .f32⟩
  | 36 => ⟨S1024x128, .f32⟩
  | 37 => ⟨S128x128x1, .f32⟩
  | 38 => ⟨S128x128x7, .f32⟩
  | 39 => ⟨S128x128x7, .f32⟩
  | 40 => ⟨S128x128, .f32⟩
  | 41 => ⟨S128x128x1, .f32⟩
  | 42 => ⟨S128x128, .f32⟩
  | 43 => ⟨S128x128, .f32⟩
  | 44 => ⟨S128x128x1, .f32⟩
  | 45 => ⟨S128x128, .f32⟩
  | 46 => ⟨S128x128, .f32⟩
  | 47 => ⟨S128x128x1, .f32⟩
  | 48 => ⟨S128x128, .f32⟩
  | 49 => ⟨S128x128, .f32⟩
  | 50 => ⟨S128x128x1, .f32⟩
  | 51 => ⟨S128x128, .f32⟩
  | 52 => ⟨S128x128, .f32⟩
  | 53 => ⟨S128x128x1, .f32⟩
  | 54 => ⟨S128x128, .f32⟩
  | 55 => ⟨S128x128, .f32⟩
  | 56 => ⟨S128x128x1, .f32⟩
  | 57 => ⟨S128x128, .f32⟩
  | 58 => ⟨S128x128, .f32⟩
  | 59 => ⟨S128x128x1, .f32⟩
  | 60 => ⟨S128x128, .f32⟩
  | 61 => ⟨S128x128, .f32⟩
  | 62 => ⟨S1024x128, .f32⟩
  | 63 => ⟨S64x128, .f32⟩
  | 64 => ⟨S64x128x7, .f32⟩
  | 65 => ⟨S64x128, .f32⟩
  | 66 => ⟨S64x128x1, .f32⟩
  | 67 => ⟨S64x128x7, .f32⟩
  | 68 => ⟨S64x128x7, .f32⟩
  | 69 => ⟨S128x64, .f32⟩
  | 70 => ⟨S64x128x1, .f32⟩
  | 71 => ⟨S64x128, .f32⟩
  | 72 => ⟨S128x64, .f32⟩
  | 73 => ⟨S64x128x1, .f32⟩
  | 74 => ⟨S64x128, .f32⟩
  | 75 => ⟨S128x64, .f32⟩
  | 76 => ⟨S64x128x1, .f32⟩
  | 77 => ⟨S64x128, .f32⟩
  | 78 => ⟨S128x64, .f32⟩
  | 79 => ⟨S64x128x1, .f32⟩
  | 80 => ⟨S64x128, .f32⟩
  | 81 => ⟨S128x64, .f32⟩
  | 82 => ⟨S64x128x1, .f32⟩
  | 83 => ⟨S64x128, .f32⟩
  | 84 => ⟨S128x64, .f32⟩
  | 85 => ⟨S64x128x1, .f32⟩
  | 86 => ⟨S64x128, .f32⟩
  | 87 => ⟨S128x64, .f32⟩
  | 88 => ⟨S64x128x1, .f32⟩
  | 89 => ⟨S64x128, .f32⟩
  | 90 => ⟨S128x64, .f32⟩
  | 91 => ⟨S1024x64, .f32⟩
  | 92 => ⟨S64x128, .f32⟩
  | 93 => ⟨S64x128x7, .f32⟩
  | 94 => ⟨S64x128, .f32⟩
  | 95 => ⟨S64x128x1, .f32⟩
  | 96 => ⟨S64x128x7, .f32⟩
  | 97 => ⟨S64x128x7, .f32⟩
  | 98 => ⟨S128x64, .f32⟩
  | 99 => ⟨S64x128x1, .f32⟩
  | 100 => ⟨S64x128, .f32⟩
  | 101 => ⟨S128x64, .f32⟩
  | 102 => ⟨S64x128x1, .f32⟩
  | 103 => ⟨S64x128, .f32⟩
  | 104 => ⟨S128x64, .f32⟩
  | 105 => ⟨S64x128x1, .f32⟩
  | 106 => ⟨S64x128, .f32⟩
  | 107 => ⟨S128x64, .f32⟩
  | 108 => ⟨S64x128x1, .f32⟩
  | 109 => ⟨S64x128, .f32⟩
  | 110 => ⟨S128x64, .f32⟩
  | 111 => ⟨S64x128x1, .f32⟩
  | 112 => ⟨S64x128, .f32⟩
  | 113 => ⟨S128x64, .f32⟩
  | 114 => ⟨S64x128x1, .f32⟩
  | 115 => ⟨S64x128, .f32⟩
  | 116 => ⟨S128x64, .f32⟩
  | 117 => ⟨S64x128x1, .f32⟩
  | 118 => ⟨S64x128, .f32⟩
  | 119 => ⟨S128x64, .f32⟩
  | 120 => ⟨S1024x64, .f32⟩
  | 121 => ⟨S64x128, .f32⟩
  | 122 => ⟨S64x128x7, .f32⟩
  | 123 => ⟨S64x128, .f32⟩
  | 124 => ⟨S64x128x1, .f32⟩
  | 125 => ⟨S64x128x7, .f32⟩
  | 126 => ⟨S64x128x7, .f32⟩
  | 127 => ⟨S128x64, .f32⟩
  | _ => ⟨S10000x128, .f32⟩

abbrev hbmTy0_1 (i : Nat) : BufTy := match i % 128 with
  | 0 => ⟨S64x128x1, .f32⟩
  | 1 => ⟨S64x128, .f32⟩
  | 2 => ⟨S128x64, .f32⟩
  | 3 => ⟨S64x128x1, .f32⟩
  | 4 => ⟨S64x128, .f32⟩
  | 5 => ⟨S128x64, .f32⟩
  | 6 => ⟨S64x128x1, .f32⟩
  | 7 => ⟨S64x128, .f32⟩
  | 8 => ⟨S128x64, .f32⟩
  | 9 => ⟨S64x128x1, .f32⟩
  | 10 => ⟨S64x128, .f32⟩
  | 11 => ⟨S128x64, .f32⟩
  | 12 => ⟨S64x128x1, .f32⟩
  | 13 => ⟨S64x128, .f32⟩
  | 14 => ⟨S128x64, .f32⟩
  | 15 => ⟨S64x128x1, .f32⟩
  | 16 => ⟨S64x128, .f32⟩
  | 17 => ⟨S128x64, .f32⟩
  | 18 => ⟨S64x128x1, .f32⟩
  | 19 => ⟨S64x128, .f32⟩
  | 20 => ⟨S128x64, .f32⟩
  | 21 => ⟨S1024x64, .f32⟩
  | 22 => ⟨S1x1024x64, .f32⟩
  | 23 => ⟨S1x1024x64, .f32⟩
  | 24 => ⟨S1x1024x64, .f32⟩
  | 25 => ⟨S3x1024x64, .f32⟩
  | 26 => ⟨S10000x128, .bf16⟩
  | 27 => ⟨S10000x128, .f32⟩
  | 28 => ⟨S10000x10000, .bf16⟩
  | 29 => ⟨S10000x128, .bf16⟩
  | 30 => ⟨S10000x128, .f32⟩
  | 31 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1024x128, .f32⟩
  | .local _ .vmem, ⟨4, _⟩ => ⟨S400x128, .bf16⟩
  | .local _ .vmem, ⟨5, _⟩ => ⟨S400x128, .bf16⟩
  | .local _ .vmem, ⟨6, _⟩ => ⟨S400x128, .f32⟩
  | .local _ .vmem, ⟨7, _⟩ => ⟨S400x128, .f32⟩
  | .local _ .vmem, ⟨8, _⟩ => ⟨S400x10000, .bf16⟩
  | .local _ .vmem, ⟨9, _⟩ => ⟨S400x10000, .bf16⟩
  | .local _ .vmem, ⟨10, _⟩ => ⟨S1000x10000, .bf16⟩
  | .local _ .vmem, ⟨11, _⟩ => ⟨S1000x10000, .bf16⟩
  | .local _ .vmem, ⟨12, _⟩ => ⟨S10000x128, .bf16⟩
  | .local _ .vmem, ⟨13, _⟩ => ⟨S1024x128, .f32⟩
  | .local _ .vmem, ⟨14, _⟩ => ⟨S1000x128, .bf16⟩
  | .local _ .vmem, ⟨15, _⟩ => ⟨S1000x128, .bf16⟩
  | .local _ .vmem, ⟨16, _⟩ => ⟨S1000x128, .f32⟩
  | .local _ .vmem, ⟨17, _⟩ => ⟨S1000x128, .f32⟩
  | .local _ .vmem, ⟨18, _⟩ => ⟨S2x1000x128, .f32⟩
  | .local _ .vmem, ⟨19, _⟩ => ⟨S1000x10000, .bf16⟩
  | .local _ .vmem, ⟨20, _⟩ => ⟨S1000x10000, .bf16⟩
  | .local _ .vmem, ⟨21, _⟩ => ⟨S10000x128, .bf16⟩
  | .local _ .vmem, ⟨22, _⟩ => ⟨S3x1024x64, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x64, .f32⟩
  | .local _ .vmem, ⟨28, _⟩ => ⟨S1000x64, .f32⟩
  | .local _ .vmem, ⟨29, _⟩ => ⟨S2x1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143_0 : Ref sig .tc := ⟨.hbm, 154, rfl⟩
abbrev main_v143_1 : Ref sig .tc := ⟨.hbm, 155, rfl⟩
abbrev main_v143_2 : Ref sig .tc := ⟨.hbm, 156, rfl⟩
abbrev main_v144_0 : Ref sig .tc := ⟨.hbm, 157, rfl⟩
abbrev main_v144_1 : Ref sig .tc := ⟨.hbm, 158, rfl⟩
abbrev main_v145 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![11], ![false]⟩

def k1_off1 (i : grid1.Coords) : Fin 3 → Nat :=
  let arg0 : BitVec 32 := BitVec.ofNat 32 (i 0).val
  let c2_i32 : BitVec 32 := 2#32
  let v0 : BitVec 32 := Scalar.remsi arg0 c2_i32
  let v6 : Index := Scalar.indexCast v0
  let c0_3 : Index := 0#32
  let c0_4 : Index := 0#32
  ![v6.toNat, 0, 0]
def k1_cond1 (i : grid1.Coords) : BitVec 1 :=
  let arg0 : BitVec 32 := BitVec.ofNat 32 (i 0).val
  let c0_i32 : BitVec 32 := 0#32
  let v10 : BitVec 1 := Scalar.cmpi .sgt arg0 c0_i32
  let v11 : BitVec 32 := Scalar.extui v10
  let c0_i32_5 : BitVec 32 := 0#32
  let v12 : BitVec 1 := Scalar.cmpi .ne v11 c0_i32_5
  v12

def k1_off2 (i : grid1.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v13 : BitVec 32 := Scalar.subi c1_i32 v0
  let v14 : Index := Scalar.indexCast v13
  let c0_6 : Index := 0#32
  let c0_7 : Index := 0#32
  ![v14.toNat, 0, 0]
def cc1_transform_0 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![11], ![false]⟩

def k2_off1 (i : grid2.Coords) : Fin 3 → Nat :=
  let arg0 : BitVec 32 := BitVec.ofNat 32 (i 0).val
  let c2_i32 : BitVec 32 := 2#32
  let v0 : BitVec 32 := Scalar.remsi arg0 c2_i32
  let v6 : Index := Scalar.indexCast v0
  let c0_3 : Index := 0#32
  let c0_4 : Index := 0#32
  ![v6.toNat, 0, 0]
def k2_cond1 (i : grid2.Coords) : BitVec 1 :=
  let arg0 : BitVec 32 := BitVec.ofNat 32 (i 0).val
  let c0_i32 : BitVec 32 := 0#32
  let v10 : BitVec 1 := Scalar.cmpi .sgt arg0 c0_i32
  let v11 : BitVec 32 := Scalar.extui v10
  let c0_i32_5 : BitVec 32 := 0#32
  let v12 : BitVec 1 := Scalar.cmpi .ne v11 c0_i32_5
  v12

def k2_off2 (i : grid2.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v346 : BitVec 32 := Scalar.subi c1_i32 v0
  let v347 : Index := Scalar.indexCast v346
  let c0_133 : Index := 0#32
  let c0_134 : Index := 0#32
  ![v347.toNat, 0, 0]
def cc2_transform_0 (i : grid2.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_4 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_5 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "sixth" => some ((6⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x128x7 : Shape := ⟨3, ![128, 128, 7]⟩
abbrev S64x384 : Shape := ⟨2, ![64, 384]⟩
abbrev S64x384x7 : Shape := ⟨3, ![64, 384, 7]⟩
abbrev S11 : Shape := ⟨1, ![11]⟩
abbrev S_ : Shape := ⟨0, ![]⟩
abbrev S1x11 : Shape := ⟨2, ![1, 11]⟩
abbrev S1x1x1x11 : Shape := ⟨4, ![1, 1, 1, 11]⟩
abbrev S128x1x1x11 : Shape := ⟨4, ![128, 1, 1, 11]⟩
abbrev S128x11 : Shape := ⟨2, ![128, 11]⟩
abbrev S10000x128x1 : Shape := ⟨3, ![10000, 128, 1]⟩
abbrev S128x10 : Shape := ⟨2, ![128, 10]⟩
abbrev S1x128x10 : Shape := ⟨3, ![1, 128, 10]⟩
abbrev S10000x128x10 : Shape := ⟨3, ![10000, 128, 10]⟩
abbrev S128x9 : Shape := ⟨2, ![128, 9]⟩
abbrev S1x128x9 : Shape := ⟨3, ![1, 128, 9]⟩
abbrev S10000x128x9 : Shape := ⟨3, ![10000, 128, 9]⟩
abbrev S128x8 : Shape := ⟨2, ![128, 8]⟩
abbrev S1x128x8 : Shape := ⟨3, ![1, 128, 8]⟩
abbrev S10000x128x8 : Shape := ⟨3, ![10000, 128, 8]⟩
abbrev S128x7 : Shape := ⟨2, ![128, 7]⟩
abbrev S1x128x7 : Shape := ⟨3, ![1, 128, 7]⟩
abbrev S10000x128x7 : Shape := ⟨3, ![10000, 128, 7]⟩
abbrev S128x128x1 : Shape := ⟨3, ![128, 128, 1]⟩
abbrev S10000x896 : Shape := ⟨2, ![10000, 896]⟩
abbrev S128x896 : Shape := ⟨2, ![128, 896]⟩
abbrev S896x128 : Shape := ⟨2, ![896, 128]⟩
abbrev S10000x384 : Shape := ⟨2, ![10000, 384]⟩
abbrev S384x1x1x11 : Shape := ⟨4, ![384, 1, 1, 11]⟩
abbrev S384x11 : Shape := ⟨2, ![384, 11]⟩
abbrev S384x64 : Shape := ⟨2, ![384, 64]⟩
abbrev S10000x64 : Shape := ⟨2, ![10000, 64]⟩
abbrev S10000x384x1 : Shape := ⟨3, ![10000, 384, 1]⟩
abbrev S384x10 : Shape := ⟨2, ![384, 10]⟩
abbrev S1x384x10 : Shape := ⟨3, ![1, 384, 10]⟩
abbrev S10000x384x10 : Shape := ⟨3, ![10000, 384, 10]⟩
abbrev S384x9 : Shape := ⟨2, ![384, 9]⟩
abbrev S1x384x9 : Shape := ⟨3, ![1, 384, 9]⟩
abbrev S10000x384x9 : Shape := ⟨3, ![10000, 384, 9]⟩
abbrev S384x8 : Shape := ⟨2, ![384, 8]⟩
abbrev S1x384x8 : Shape := ⟨3, ![1, 384, 8]⟩
abbrev S10000x384x8 : Shape := ⟨3, ![10000, 384, 8]⟩
abbrev S384x7 : Shape := ⟨2, ![384, 7]⟩
abbrev S1x384x7 : Shape := ⟨3, ![1, 384, 7]⟩
abbrev S10000x384x7 : Shape := ⟨3, ![10000, 384, 7]⟩
abbrev S64x384x1 : Shape := ⟨3, ![64, 384, 1]⟩
abbrev S10000x2688 : Shape := ⟨2, ![10000, 2688]⟩
abbrev S64x2688 : Shape := ⟨2, ![64, 2688]⟩
abbrev S2688x64 : Shape := ⟨2, ![2688, 64]⟩

abbrev nBuf : Space → Nat
  | .hbm => 405
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128x128x7, .f32⟩
  | 4 => ⟨S128x128, .f32⟩
  | 5 => ⟨S128x128, .f32⟩
  | 6 => ⟨S128x128x7, .f32⟩
  | 7 => ⟨S128x128, .f32⟩
  | 8 => ⟨S64x384, .f32⟩
  | 9 => ⟨S64x384x7, .f32⟩
  | 10 => ⟨S64x384, .f32⟩
  | 11 => ⟨S10000x128, .f32⟩
  | 12 => ⟨S11, .f32⟩
  | 13 => ⟨S_, .f32⟩
  | 14 => ⟨S11, .f32⟩
  | 15 => ⟨S11, .f32⟩
  | 16 => ⟨S_, .f32⟩
  | 17 => ⟨S11, .f32⟩
  | 18 => ⟨S11, .f32⟩
  | 19 => ⟨S_, .f32⟩
  | 20 => ⟨S11, .f32⟩
  | 21 => ⟨S11, .f32⟩
  | 22 => ⟨S1x11, .f32⟩
  | 23 => ⟨S1x1x1x11, .f32⟩
  | 24 => ⟨S128x1x1x11, .f32⟩
  | 25 => ⟨S128x11, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S10000x128, .f32⟩
  | 35 => ⟨S128x128, .f32⟩
  | 36 => ⟨S10000x128, .f32⟩
  | 37 => ⟨S10000x128x1, .f32⟩
  | 38 => ⟨S128x10, .f32⟩
  | 39 => ⟨S1x128x10, .f32⟩
  | 40 => ⟨S10000x128x10, .f32⟩
  | 41 => ⟨S10000x128x10, .f32⟩
  | 42 => ⟨S10000x128x10, .i1⟩
  | 43 => ⟨S128x10, .f32⟩
  | 44 => ⟨S1x128x10, .f32⟩
  | 45 => ⟨S10000x128x10, .f32⟩
  | 46 => ⟨S10000x128x10, .f32⟩
  | 47 => ⟨S10000x128x10, .i1⟩
  | 48 => ⟨S10000x128x10, .i1⟩
  | 49 => ⟨S10000x128x10, .f32⟩
  | 50 => ⟨S128x9, .f32⟩
  | 51 => ⟨S1x128x9, .f32⟩
  | 52 => ⟨S10000x128x9, .f32⟩
  | 53 => ⟨S10000x128x9, .f32⟩
  | 54 => ⟨S10000x128x9, .f32⟩
  | 55 => ⟨S128x9, .f32⟩
  | 56 => ⟨S128x9, .f32⟩
  | 57 => ⟨S128x9, .f32⟩
  | 58 => ⟨S1x128x9, .f32⟩
  | 59 => ⟨S10000x128x9, .f32⟩
  | 60 => ⟨S10000x128x9, .f32⟩
  | 61 => ⟨S10000x128x9, .f32⟩
  | 62 => ⟨S10000x128x9, .f32⟩
  | 63 => ⟨S128x9, .f32⟩
  | 64 => ⟨S1x128x9, .f32⟩
  | 65 => ⟨S10000x128x9, .f32⟩
  | 66 => ⟨S10000x128x9, .f32⟩
  | 67 => ⟨S10000x128x9, .f32⟩
  | 68 => ⟨S128x9, .f32⟩
  | 69 => ⟨S128x9, .f32⟩
  | 70 => ⟨S128x9, .f32⟩
  | 71 => ⟨S1x128x9, .f32⟩
  | 72 => ⟨S10000x128x9, .f32⟩
  | 73 => ⟨S10000x128x9, .f32⟩
  | 74 => ⟨S10000x128x9, .f32⟩
  | 75 => ⟨S10000x128x9, .f32⟩
  | 76 => ⟨S10000x128x9, .f32⟩
  | 77 => ⟨S128x8, .f32⟩
  | 78 => ⟨S1x128x8, .f32⟩
  | 79 => ⟨S10000x128x8, .f32⟩
  | 80 => ⟨S10000x128x8, .f32⟩
  | 81 => ⟨S10000x128x8, .f32⟩
  | 82 => ⟨S128x8, .f32⟩
  | 83 => ⟨S128x8, .f32⟩
  | 84 => ⟨S128x8, .f32⟩
  | 85 => ⟨S1x128x8, .f32⟩
  | 86 => ⟨S10000x128x8, .f32⟩
  | 87 => ⟨S10000x128x8, .f32⟩
  | 88 => ⟨S10000x128x8, .f32⟩
  | 89 => ⟨S10000x128x8, .f32⟩
  | 90 => ⟨S128x8, .f32⟩
  | 91 => ⟨S1x128x8, .f32⟩
  | 92 => ⟨S10000x128x8, .f32⟩
  | 93 => ⟨S10000x128x8, .f32⟩
  | 94 => ⟨S10000x128x8, .f32⟩
  | 95 => ⟨S128x8, .f32⟩
  | 96 => ⟨S128x8, .f32⟩
  | 97 => ⟨S128x8, .f32⟩
  | 98 => ⟨S1x128x8, .f32⟩
  | 99 => ⟨S10000x128x8, .f32⟩
  | 100 => ⟨S10000x128x8, .f32⟩
  | 101 => ⟨S10000x128x8, .f32⟩
  | 102 => ⟨S10000x128x8, .f32⟩
  | 103 => ⟨S10000x128x8, .f32⟩
  | 104 => ⟨S128x7, .f32⟩
  | 105 => ⟨S1x128x7, .f32⟩
  | 106 => ⟨S10000x128x7, .f32⟩
  | 107 => ⟨S10000x128x7, .f32⟩
  | 108 => ⟨S10000x128x7, .f32⟩
  | 109 => ⟨S128x7, .f32⟩
  | 110 => ⟨S128x7, .f32⟩
  | 111 => ⟨S128x7, .f32⟩
  | 112 => ⟨S1x128x7, .f32⟩
  | 113 => ⟨S10000x128x7, .f32⟩
  | 114 => ⟨S10000x128x7, .f32⟩
  | 115 => ⟨S10000x128x7, .f32⟩
  | 116 => ⟨S10000x128x7, .f32⟩
  | 117 => ⟨S128x7, .f32⟩
  | 118 => ⟨S1x128x7, .f32⟩
  | 119 => ⟨S10000x128x7, .f32⟩
  | 120 => ⟨S10000x128x7, .f32⟩
  | 121 => ⟨S10000x128x7, .f32⟩
  | 122 => ⟨S128x7, .f32⟩
  | 123 => ⟨S128x7, .f32⟩
  | 124 => ⟨S128x7, .f32⟩
  | 125 => ⟨S1x128x7, .f32⟩
  | 126 => ⟨S10000x128x7, .f32⟩
  | 127 => ⟨S10000x128x7, .f32⟩
  | _ => ⟨S10000x128, .f32⟩

abbrev hbmTy0_1 (i : Nat) : BufTy := match i % 128 with
  | 0 => ⟨S10000x128x7, .f32⟩
  | 1 => ⟨S10000x128x7, .f32⟩
  | 2 => ⟨S10000x128x7, .f32⟩
  | 3 => ⟨S128x128x1, .f32⟩
  | 4 => ⟨S128x128x7, .f32⟩
  | 5 => ⟨S128x128x7, .f32⟩
  | 6 => ⟨S10000x896, .f32⟩
  | 7 => ⟨S128x896, .f32⟩
  | 8 => ⟨S896x128, .f32⟩
  | 9 => ⟨S10000x128, .f32⟩
  | 10 => ⟨S10000x128, .f32⟩
  | 11 => ⟨S_, .f32⟩
  | 12 => ⟨S10000x128, .f32⟩
  | 13 => ⟨S10000x128, .f32⟩
  | 14 => ⟨S10000x128, .f32⟩
  | 15 => ⟨S11, .f32⟩
  | 16 => ⟨S_, .f32⟩
  | 17 => ⟨S11, .f32⟩
  | 18 => ⟨S11, .f32⟩
  | 19 => ⟨S_, .f32⟩
  | 20 => ⟨S11, .f32⟩
  | 21 => ⟨S11, .f32⟩
  | 22 => ⟨S_, .f32⟩
  | 23 => ⟨S11, .f32⟩
  | 24 => ⟨S11, .f32⟩
  | 25 => ⟨S1x11, .f32⟩
  | 26 => ⟨S1x1x1x11, .f32⟩
  | 27 => ⟨S128x1x1x11, .f32⟩
  | 28 => ⟨S128x11, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x128, .f32⟩
  | 38 => ⟨S128x128, .f32⟩
  | 39 => ⟨S10000x128, .f32⟩
  | 40 => ⟨S10000x128x1, .f32⟩
  | 41 => ⟨S128x10, .f32⟩
  | 42 => ⟨S1x128x10, .f32⟩
  | 43 => ⟨S10000x128x10, .f32⟩
  | 44 => ⟨S10000x128x10, .f32⟩
  | 45 => ⟨S10000x128x10, .i1⟩
  | 46 => ⟨S128x10, .f32⟩
  | 47 => ⟨S1x128x10, .f32⟩
  | 48 => ⟨S10000x128x10, .f32⟩
  | 49 => ⟨S10000x128x10, .f32⟩
  | 50 => ⟨S10000x128x10, .i1⟩
  | 51 => ⟨S10000x128x10, .i1⟩
  | 52 => ⟨S10000x128x10, .f32⟩
  | 53 => ⟨S128x9, .f32⟩
  | 54 => ⟨S1x128x9, .f32⟩
  | 55 => ⟨S10000x128x9, .f32⟩
  | 56 => ⟨S10000x128x9, .f32⟩
  | 57 => ⟨S10000x128x9, .f32⟩
  | 58 => ⟨S128x9, .f32⟩
  | 59 => ⟨S128x9, .f32⟩
  | 60 => ⟨S128x9, .f32⟩
  | 61 => ⟨S1x128x9, .f32⟩
  | 62 => ⟨S10000x128x9, .f32⟩
  | 63 => ⟨S10000x128x9, .f32⟩
  | 64 => ⟨S10000x128x9, .f32⟩
  | 65 => ⟨S10000x128x9, .f32⟩
  | 66 => ⟨S128x9, .f32⟩
  | 67 => ⟨S1x128x9, .f32⟩
  | 68 => ⟨S10000x128x9, .f32⟩
  | 69 => ⟨S10000x128x9, .f32⟩
  | 70 => ⟨S10000x128x9, .f32⟩
  | 71 => ⟨S128x9, .f32⟩
  | 72 => ⟨S128x9, .f32⟩
  | 73 => ⟨S128x9, .f32⟩
  | 74 => ⟨S1x128x9, .f32⟩
  | 75 => ⟨S10000x128x9, .f32⟩
  | 76 => ⟨S10000x128x9, .f32⟩
  | 77 => ⟨S10000x128x9, .f32⟩
  | 78 => ⟨S10000x128x9, .f32⟩
  | 79 => ⟨S10000x128x9, .f32⟩
  | 80 => ⟨S128x8, .f32⟩
  | 81 => ⟨S1x128x8, .f32⟩
  | 82 => ⟨S10000x128x8, .f32⟩
  | 83 => ⟨S10000x128x8, .f32⟩
  | 84 => ⟨S10000x128x8, .f32⟩
  | 85 => ⟨S128x8, .f32⟩
  | 86 => ⟨S128x8, .f32⟩
  | 87 => ⟨S128x8, .f32⟩
  | 88 => ⟨S1x128x8, .f32⟩
  | 89 => ⟨S10000x128x8, .f32⟩
  | 90 => ⟨S10000x128x8, .f32⟩
  | 91 => ⟨S10000x128x8, .f32⟩
  | 92 => ⟨S10000x128x8, .f32⟩
  | 93 => ⟨S128x8, .f32⟩
  | 94 => ⟨S1x128x8, .f32⟩
  | 95 => ⟨S10000x128x8, .f32⟩
  | 96 => ⟨S10000x128x8, .f32⟩
  | 97 => ⟨S10000x128x8, .f32⟩
  | 98 => ⟨S128x8, .f32⟩
  | 99 => ⟨S128x8, .f32⟩
  | 100 => ⟨S128x8, .f32⟩
  | 101 => ⟨S1x128x8, .f32⟩
  | 102 => ⟨S10000x128x8, .f32⟩
  | 103 => ⟨S10000x128x8, .f32⟩
  | 104 => ⟨S10000x128x8, .f32⟩
  | 105 => ⟨S10000x128x8, .f32⟩
  | 106 => ⟨S10000x128x8, .f32⟩
  | 107 => ⟨S128x7, .f32⟩
  | 108 => ⟨S1x128x7, .f32⟩
  | 109 => ⟨S10000x128x7, .f32⟩
  | 110 => ⟨S10000x128x7, .f32⟩
  | 111 => ⟨S10000x128x7, .f32⟩
  | 112 => ⟨S128x7, .f32⟩
  | 113 => ⟨S128x7, .f32⟩
  | 114 => ⟨S128x7, .f32⟩
  | 115 => ⟨S1x128x7, .f32⟩
  | 116 => ⟨S10000x128x7, .f32⟩
  | 117 => ⟨S10000x128x7, .f32⟩
  | 118 => ⟨S10000x128x7, .f32⟩
  | 119 => ⟨S10000x128x7, .f32⟩
  | 120 => ⟨S128x7, .f32⟩
  | 121 => ⟨S1x128x7, .f32⟩
  | 122 => ⟨S10000x128x7, .f32⟩
  | 123 => ⟨S10000x128x7, .f32⟩
  | 124 => ⟨S10000x128x7, .f32⟩
  | 125 => ⟨S128x7, .f32⟩
  | 126 => ⟨S128x7, .f32⟩
  | 127 => ⟨S128x7, .f32⟩
  | _ => ⟨S10000x128, .f32⟩

abbrev hbmTy0_2 (i : Nat) : BufTy := match i % 128 with
  | 0 => ⟨S1x128x7, .f32⟩
  | 1 => ⟨S10000x128x7, .f32⟩
  | 2 => ⟨S10000x128x7, .f32⟩
  | 3 => ⟨S10000x128x7, .f32⟩
  | 4 => ⟨S10000x128x7, .f32⟩
  | 5 => ⟨S10000x128x7, .f32⟩
  | 6 => ⟨S128x128x1, .f32⟩
  | 7 => ⟨S128x128x7, .f32⟩
  | 8 => ⟨S128x128x7, .f32⟩
  | 9 => ⟨S10000x896, .f32⟩
  | 10 => ⟨S128x896, .f32⟩
  | 11 => ⟨S896x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S10000x384, .f32⟩
  | 18 => ⟨S10000x384, .f32⟩
  | 19 => ⟨S11, .f32⟩
  | 20 => ⟨S_, .f32⟩
  | 21 => ⟨S11, .f32⟩
  | 22 => ⟨S11, .f32⟩
  | 23 => ⟨S_, .f32⟩
  | 24 => ⟨S11, .f32⟩
  | 25 => ⟨S11, .f32⟩
  | 26 => ⟨S_, .f32⟩
  | 27 => ⟨S11, .f32⟩
  | 28 => ⟨S11, .f32⟩
  | 29 => ⟨S1x11, .f32⟩
  | 30 => ⟨S1x1x1x11, .f32⟩
  | 31 => ⟨S384x1x1x11, .f32⟩
  | 32 => ⟨S384x11, .f32⟩
  | 33 => ⟨S10000x384, .f32⟩
  | 34 => ⟨S10000x384, .f32⟩
  | 35 => ⟨S_, .f32⟩
  | 36 => ⟨S10000x384, .f32⟩
  | 37 => ⟨S10000x384, .f32⟩
  | 38 => ⟨S_, .f32⟩
  | 39 => ⟨S10000x384, .f32⟩
  | 40 => ⟨S10000x384, .f32⟩
  | 41 => ⟨S10000x384, .f32⟩
  | 42 => ⟨S384x64, .f32⟩
  | 43 => ⟨S10000x64, .f32⟩
  | 44 => ⟨S10000x384x1, .f32⟩
  | 45 => ⟨S384x10, .f32⟩
  | 46 => ⟨S1x384x10, .f32⟩
  | 47 => ⟨S10000x384x10, .f32⟩
  | 48 => ⟨S10000x384x10, .f32⟩
  | 49 => ⟨S10000x384x10, .i1⟩
  | 50 => ⟨S384x10, .f32⟩
  | 51 => ⟨S1x384x10, .f32⟩
  | 52 => ⟨S10000x384x10, .f32⟩
  | 53 => ⟨S10000x384x10, .f32⟩
  | 54 => ⟨S10000x384x10, .i1⟩
  | 55 => ⟨S10000x384x10, .i1⟩
  | 56 => ⟨S10000x384x10, .f32⟩
  | 57 => ⟨S384x9, .f32⟩
  | 58 => ⟨S1x384x9, .f32⟩
  | 59 => ⟨S10000x384x9, .f32⟩
  | 60 => ⟨S10000x384x9, .f32⟩
  | 61 => ⟨S10000x384x9, .f32⟩
  | 62 => ⟨S384x9, .f32⟩
  | 63 => ⟨S384x9, .f32⟩
  | 64 => ⟨S384x9, .f32⟩
  | 65 => ⟨S1x384x9, .f32⟩
  | 66 => ⟨S10000x384x9, .f32⟩
  | 67 => ⟨S10000x384x9, .f32⟩
  | 68 => ⟨S10000x384x9, .f32⟩
  | 69 => ⟨S10000x384x9, .f32⟩
  | 70 => ⟨S384x9, .f32⟩
  | 71 => ⟨S1x384x9, .f32⟩
  | 72 => ⟨S10000x384x9, .f32⟩
  | 73 => ⟨S10000x384x9, .f32⟩
  | 74 => ⟨S10000x384x9, .f32⟩
  | 75 => ⟨S384x9, .f32⟩
  | 76 => ⟨S384x9, .f32⟩
  | 77 => ⟨S384x9, .f32⟩
  | 78 => ⟨S1x384x9, .f32⟩
  | 79 => ⟨S10000x384x9, .f32⟩
  | 80 => ⟨S10000x384x9, .f32⟩
  | 81 => ⟨S10000x384x9, .f32⟩
  | 82 => ⟨S10000x384x9, .f32⟩
  | 83 => ⟨S10000x384x9, .f32⟩
  | 84 => ⟨S384x8, .f32⟩
  | 85 => ⟨S1x384x8, .f32⟩
  | 86 => ⟨S10000x384x8, .f32⟩
  | 87 => ⟨S10000x384x8, .f32⟩
  | 88 => ⟨S10000x384x8, .f32⟩
  | 89 => ⟨S384x8, .f32⟩
  | 90 => ⟨S384x8, .f32⟩
  | 91 => ⟨S384x8, .f32⟩
  | 92 => ⟨S1x384x8, .f32⟩
  | 93 => ⟨S10000x384x8, .f32⟩
  | 94 => ⟨S10000x384x8, .f32⟩
  | 95 => ⟨S10000x384x8, .f32⟩
  | 96 => ⟨S10000x384x8, .f32⟩
  | 97 => ⟨S384x8, .f32⟩
  | 98 => ⟨S1x384x8, .f32⟩
  | 99 => ⟨S10000x384x8, .f32⟩
  | 100 => ⟨S10000x384x8, .f32⟩
  | 101 => ⟨S10000x384x8, .f32⟩
  | 102 => ⟨S384x8, .f32⟩
  | 103 => ⟨S384x8, .f32⟩
  | 104 => ⟨S384x8, .f32⟩
  | 105 => ⟨S1x384x8, .f32⟩
  | 106 => ⟨S10000x384x8, .f32⟩
  | 107 => ⟨S10000x384x8, .f32⟩
  | 108 => ⟨S10000x384x8, .f32⟩
  | 109 => ⟨S10000x384x8, .f32⟩
  | 110 => ⟨S10000x384x8, .f32⟩
  | 111 => ⟨S384x7, .f32⟩
  | 112 => ⟨S1x384x7, .f32⟩
  | 113 => ⟨S10000x384x7, .f32⟩
  | 114 => ⟨S10000x384x7, .f32⟩
  | 115 => ⟨S10000x384x7, .f32⟩
  | 116 => ⟨S384x7, .f32⟩
  | 117 => ⟨S384x7, .f32⟩
  | 118 => ⟨S384x7, .f32⟩
  | 119 => ⟨S1x384x7, .f32⟩
  | 120 => ⟨S10000x384x7, .f32⟩
  | 121 => ⟨S10000x384x7, .f32⟩
  | 122 => ⟨S10000x384x7, .f32⟩
  | 123 => ⟨S10000x384x7, .f32⟩
  | 124 => ⟨S384x7, .f32⟩
  | 125 => ⟨S1x384x7, .f32⟩
  | 126 => ⟨S10000x384x7, .f32⟩
  | 127 => ⟨S10000x384x7, .f32⟩
  | _ => ⟨S10000x128, .f32⟩

abbrev hbmTy0_3 (i : Nat) : BufTy := match i % 128 with
  | 0 => ⟨S10000x384x7, .f32⟩
  | 1 => ⟨S384x7, .f32⟩
  | 2 => ⟨S384x7, .f32⟩
  | 3 => ⟨S384x7, .f32⟩
  | 4 => ⟨S1x384x7, .f32⟩
  | 5 => ⟨S10000x384x7, .f32⟩
  | 6 => ⟨S10000x384x7, .f32⟩
  | 7 => ⟨S10000x384x7, .f32⟩
  | 8 => ⟨S10000x384x7, .f32⟩
  | 9 => ⟨S10000x384x7, .f32⟩
  | 10 => ⟨S64x384x1, .f32⟩
  | 11 => ⟨S64x384x7, .f32⟩
  | 12 => ⟨S64x384x7, .f32⟩
  | 13 => ⟨S10000x2688, .f32⟩
  | 14 => ⟨S64x2688, .f32⟩
  | 15 => ⟨S2688x64, .f32⟩
  | 16 => ⟨S10000x64, .f32⟩
  | 17 => ⟨S10000x64, .f32⟩
  | 18 => ⟨S_, .f32⟩
  | 19 => ⟨S10000x64, .f32⟩
  | 20 => ⟨S10000x64, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_call1_cst : Ref sig .tc := ⟨.hbm, 139, rfl⟩
abbrev main_call1_v0 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_2 : Ref sig .tc := ⟨.hbm, 144, rfl⟩
abbrev main_v120 : Ref sig .tc := ⟨.hbm, 145, rfl⟩
abbrev main_v121 : Ref sig .tc := ⟨.hbm, 146, rfl⟩
abbrev main_cst_3 : Ref sig .tc := ⟨.hbm, 147, rfl⟩
abbrev main_v122 : Ref sig .tc := ⟨.hbm, 148, rfl⟩
abbrev main_v123 : Ref sig .tc := ⟨.hbm, 149, rfl⟩
abbrev main_cst_4 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_call2_v0 : Ref sig .tc := ⟨.hbm, 157, rfl⟩
abbrev main_call2_v1 : Ref sig .tc := ⟨.hbm, 158, rfl⟩
abbrev main_call2_cst : Ref sig .tc := ⟨.hbm, 159, rfl⟩
abbrev main_call2_v2 : Ref sig .tc := ⟨.hbm, 160, rfl⟩
abbrev main_call2_v3 : Ref sig .tc := ⟨.hbm, 161, rfl⟩
abbrev main_call2_cst_0 : Ref sig .tc := ⟨.hbm, 162, rfl⟩
abbrev main_call2_v4 : Ref sig .tc := ⟨.hbm, 163, rfl⟩
abbrev main_call2_v5 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_call3_cst : Ref sig .tc := ⟨.hbm, 270, rfl⟩
abbrev main_call3_v0 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_cst_5 : Ref sig .tc := ⟨.hbm, 276, rfl⟩
abbrev main_v239 : Ref sig .tc := ⟨.hbm, 277, rfl⟩
abbrev main_v240 : Ref sig .tc := ⟨.hbm, 278, rfl⟩
abbrev main_cst_6 : Ref sig .tc := ⟨.hbm, 279, rfl⟩
abbrev main_v241 : Ref sig .tc := ⟨.hbm, 280, rfl⟩
abbrev main_v242 : Ref sig .tc := ⟨.hbm, 281, rfl⟩
abbrev main_cst_7 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_call4_v0 : Ref sig .tc := ⟨.hbm, 289, rfl⟩
abbrev main_call4_v1 : Ref sig .tc := ⟨.hbm, 290, rfl⟩
abbrev main_call4_cst : Ref sig .tc := ⟨.hbm, 291, rfl⟩
abbrev main_call4_v2 : Ref sig .tc := ⟨.hbm, 292, rfl⟩
abbrev main_call4_v3 : Ref sig .tc := ⟨.hbm, 293, rfl⟩
abbrev main_call4_cst_0 : Ref sig .tc := ⟨.hbm, 294, rfl⟩
abbrev main_call4_v4 : Ref sig .tc := ⟨.hbm, 295, rfl⟩
abbrev main_call4_v5 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_call5_cst : Ref sig .tc := ⟨.hbm, 402, rfl⟩
abbrev main_call5_v0 : Ref sig .tc := ⟨.hbm, 403, rfl⟩
abbrev main_v354 : Ref sig .tc := ⟨.hbm, 404, rfl⟩

abbrev nD : Nat := 1
abbrev τ : Topo := Topo.v7x

variable {F : FTy → Type} [FloatOps F]
-- ==== Proof.KernelIdeal.Region0.lean ====
/-
  The first kernel region of the program (`cc0__layer1_kernel`, 25 grid points, 400 rows each), entered at any contents `V`
  of the core's buffers. One grid point reads a block of 400 rows of the adjacency matrix, the whole feature matrix and the
  whole weight matrix, and writes three blocks: the layer's output, the aggregated features, and the adjacency rows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.RegionArraysS
public import Idealize.ShloMosaic.Lib.Pipeline.ValueKit.Basic
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated features of a block: adjacency rows times the feature matrix. -/
def pre0 (x0 : Vec F S400x10000 .f32) (x1 : Vec F S10000x128 .f32) : FVec F S400x128 .f32 := k0_pay3 x0 x1
/-- The adjacency rows as the later layers read them. -/
def adj0 (x0 : Vec F S400x10000 .f32) : FVec F S400x10000 .bf16 := k0_pay2 x0
/-- The layer's output on a block: features of the aggregated rows times the weights, clipped below at zero. -/
def hid0 (x0 : Vec F S400x10000 .f32) (x1 : Vec F S10000x128 .f32) (x2 : Vec F S1024x128 .f32) : FVec F S400x128 .bf16 :=
  k0_pay1 (k0_pay11 (k0_pay4 x0 x1) (k0_pay5 x0 x1) (k0_pay6 x0 x1) (k0_pay7 (k0_pay4 x0 x1) (Scalar.ofBits .f32 0x3F800000#32))
    (k0_pay8 (k0_pay4 x0 x1)) (k0_pay9 (k0_pay4 x0 x1) (Scalar.ofBits .f32 0x40400000#32)) (k0_pay10 (k0_pay4 x0 x1)) (Scalar.ofBits .f32 0x40A00000#32)) x2

abbrev r0a : Rect S400x10000 := Rect.unit (s := S400x10000) ![0, 0] S400x10000.size inb_S400x10000_S400x10000_0_0
abbrev r0b : Rect S400x128 := Rect.unit (s := S400x128) ![0, 0] S400x128.size inb_S400x128_S400x128_0_0

set_option maxHeartbeats 4000000 in
/-- One grid point of the first region: given the three input blocks and the three output buffers, the body ends with the inputs
    as they were and the outputs at the layer's output, the aggregated features and the adjacency rows of the block. -/
theorem body0 (c : Dev nD) (E : Set ℕ) (i : grid0.Coords) (arg1 : Memref sig .tc .vmem S400x10000 .f32) (harg1 : arg1.IsWhole) (arg2 : Memref sig .tc .vmem S10000x128 .f32) (harg2 : arg2.IsWhole) (arg3 : Memref sig .tc .vmem S1024x128 .f32) (harg3 : arg3.IsWhole) (arg4 : Memref sig .tc .vmem S400x128 .bf16) (harg4 : arg4.IsWhole) (arg5 : Memref sig .tc .vmem S400x128 .f32) (harg5 : arg5.IsWhole) (arg6 : Memref sig .tc .vmem S400x10000 .bf16) (harg6 : arg6.IsWhole)
    (x0 : Vec F S400x10000 .f32) (x1 : Vec F S10000x128 .f32) (x2 : Vec F S1024x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (hid0 x0 x1 x2) ∗ owns (c : Thread nD τ) arg5 fullShare (pre0 x0 x1) ∗ owns (c : Thread nD τ) arg6 fullShare (adj0 x0)) -∗ K ⟨⟩))
      ⊢ wp frame (wpE (defs₀ (F := F)) Variants.none c none) E (cc0__layer1_kernel i arg1 harg1 arg2 harg2 arg3 harg3 arg4 harg4 arg5 harg5 arg6 harg6) K := by
  simp only [cc0__layer1_kernel_eq_skeleton]; unfold cc0__layer1_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  sl_exec
  sl_step
  have e0 : arg1.view.readAt (Elt F) (Rect.unit (s := S400x10000) ![0, 0] S400x10000.size inb_S400x10000_S400x10000_0_0).toLoadRect f0 = x0 :=
    (View.ld_unit_lit _ (arg1.view.read (Elt F) f0) (by decide)).trans hf0
  have e1 : arg2.view.readAt (Elt F) (Rect.unit (s := S10000x128) ![0, 0] S10000x128.size inb_S10000x128_S10000x128_0_0).toLoadRect f1 = x1 :=
    (View.ld_unit_lit _ (arg2.view.read (Elt F) f1) (by decide)).trans hf1
  have e2 : arg3.view.readAt (Elt F) (Rect.unit (s := S1024x128) ![0, 0] S1024x128.size inb_S1024x128_S1024x128_0_0).toLoadRect f2 = x2 :=
    (View.ld_unit_lit _ (arg3.view.read (Elt F) f2) (by decide)).trans hf2
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (View.read_writes_full _ _ _ _ _).trans ?_
    unfold hid0
    rw [← e0, ← e1, ← e2]; rfl
  isplitl [H4]
  · iexists _; isplitr
    swap; · iexact H4
    ipureintro
    refine (View.read_writes_full _ _ _ _ _).trans ?_
    unfold pre0
    rw [← e0, ← e1]
  iexists _; isplitr
  swap; · iexact H5
  ipureintro
  refine (View.read_writes_full _ _ _ _ _).trans ?_
  unfold adj0
  rw [← e0]

/-- What the first region keeps at each grid point: the arrays as found, each input buffer at its block, each output buffer
    at the body's result on the blocks, and the rest of the scoped buffers untouched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hid0 (blk0 V c 0 t) (blk0 V c 1 t) (blk0 V c 2 t)
    | ⟨4, _⟩ => pre0 (blk0 V c 0 t) (blk0 V c 1 t)
    | ⟨5, _⟩ => adj0 (blk0 V c 0 t)
  Φ _ := Pipeline.ΦA spec0 c
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = hid0 (blk0 V c 0 t) (blk0 V c 1 t) (blk0 V c 2 t) := by dsimp only [dat0]
theorem after0_4 (c : Dev nD) (t : Fin cfg0.N) : (dat0 V c).after 4 t = pre0 (blk0 V c 0 t) (blk0 V c 1 t) := by dsimp only [dat0]
theorem after0_5 (c : Dev nD) (t : Fin cfg0.N) : (dat0 V c).after 5 t = adj0 (blk0 V c 0 t) := by dsimp only [dat0]

/-- Before the body each input buffer holds its block, whether it was fetched at this point or earlier. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)

/-- The body at any grid point, from what the pipeline hands it to what the pipeline expects back. -/
theorem point0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body0 c Set.univ (grid0.coords t) _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

/-- The first region's body meets the pipeline's obligation at every grid point. -/
theorem obligation0 (c : Dev nD) : BodyObligation (dat0 (F := F) V c) (defs₀ (F := F)) Variants.none () Set.univ := fun t => by
  rw [bigSep_W0, bigSep_W0, row0]
  exact triple_restated (point0 V c t) rfl .rfl fun _ => .rfl

end Cert.KernelIdeal.Layers

end
-- ==== Proof.KernelIdeal.Region1.lean ====
/-
  The second kernel region of the program (`cc1__layer_kernel`, 11 grid points, blocks of 1000 rows), entered at any contents
  `V` of the core's buffers. Point `t` stores the product of adjacency block `t` with the hidden features into slot `t % 2` of
  a two-slot scratch buffer; from point 1 on it reads the other slot, which holds the product of point `t - 1`, and writes the
  output blocks of index `t - 1`.
-/
module

public import proofs.«01_k».proof.Proof.KernelIdeal.Region0

@[expose] public section

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A slot of the two-slot scratch buffer, at the offset the kernel computes. -/
abbrev slot (off : Fin 3 → ℕ) (inb : ∀ a, off a + S1x1000x128.size a ≤ S2x1000x128.size a) : Rect S2x1000x128 :=
  Rect.unit (s := S2x1000x128) off S1x1000x128.size inb

/-- Equal offsets name the same slot. -/
theorem slot_congr (X : Vec F S2x1000x128 .f32) {off off' : Fin 3 → ℕ} (h : off = off') (inb) (inb') :
    View.ld X (slot off inb) = View.ld X (slot off' inb') := by subst h; rfl

/-- A slot just stored reads back what was stored. -/
theorem slot_same (m : Memref sig .tc .vmem S2x1000x128 .f32) (f : m.view.ty.Contents (Elt F)) (off : Fin 3 → ℕ) (inb)
    (w : (slot off inb).shape.Idx → Elt F .f32) :
    View.ld (m.view.read (Elt F) (m.view.writes (Elt F) f [(⟨slot off inb, w⟩ : View.Piece (Elt F) S2x1000x128 .f32)])) (slot off inb) = w :=
  funext fun x => View.read_writes_cons_unit_of_mem _ _ inb w [] _ x rfl fun a => by
    show off a + 1 * (x a).val = off a + (x a).val
    omega

/-- Storing one slot leaves the other as it was. -/
theorem slot_other (m : Memref sig .tc .vmem S2x1000x128 .f32) (f : m.view.ty.Contents (Elt F)) (off off' : Fin 3 → ℕ) (inb) (inb')
    (w : (slot off inb).shape.Idx → Elt F .f32) (h : off 0 ≠ off' 0) :
    m.view.readAt (Elt F) (slot off' inb').toLoadRect (m.view.writes (Elt F) f [(⟨slot off inb, w⟩ : View.Piece (Elt F) S2x1000x128 .f32)])
      = View.ld (m.view.read (Elt F) f) (slot off' inb') :=
  funext fun x => (View.read_writes_cons_unit_of_not_mem _ _ inb w [] _ rfl 0 (by
    have hx : (x 0).val = 0 := by have := (x 0).isLt; change (x 0).val < 1 at this; omega
    have he : (((slot off' inb').toLoadRect.idx x) 0).val = off' 0 := by
      show off' 0 + 1 * (x 0).val = off' 0
      omega
    rw [he]
    show off' 0 < off 0 ∨ off 0 + 1 ≤ off' 0
    omega))

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The layer's output on a block of aggregated features: their features times the weights, clipped below at zero. -/
def hid1 (x : Vec F S1x1000x128 .f32) (x2 : Vec F S1024x128 .f32) : FVec F S1000x128 .bf16 :=
  k1_pay16 (k1_pay3 x) (k1_pay4 x) (k1_pay5 x) (k1_pay8 (k1_pay6 x) (k1_pay7 x) (Scalar.ofBits .f32 0x00000000#32)) (k1_pay9 (k1_pay3 x))
    (k1_pay12 (k1_pay10 (k1_pay3 x)) (k1_pay11 (k1_pay3 x)) (Scalar.ofBits .f32 0x00000000#32)) (k1_pay13 (k1_pay3 x)) (k1_pay14 (k1_pay3 x)) (k1_pay15 (k1_pay3 x))
    (Scalar.ofBits .f32 0x00000000#32) x2

set_option maxHeartbeats 4000000 in
/-- The first grid point of the second region only fills its slot of the scratch buffer. -/
theorem body1_first (c : Dev nD) (E : Set ℕ) (i : grid1.Coords) (hc : ¬ k1_cond1 i = 1#1) (arg1 : Memref sig .tc .vmem S1000x10000 .bf16) (harg1 : arg1.IsWhole) (arg2 : Memref sig .tc .vmem S10000x128 .bf16) (harg2 : arg2.IsWhole) (arg3 : Memref sig .tc .vmem S1024x128 .f32) (harg3 : arg3.IsWhole) (arg4 : Memref sig .tc .vmem S1000x128 .bf16) (harg4 : arg4.IsWhole) (arg5 : Memref sig .tc .vmem S1000x128 .f32) (harg5 : arg5.IsWhole) (arg6 : Memref sig .tc .vmem S2x1000x128 .f32) (harg6 : arg6.IsWhole)
    (x0 : Vec F S1000x10000 .bf16) (x1 : Vec F S10000x128 .bf16) (X : Vec F S2x1000x128 .f32) (K : PUnit → sProp 𝕄) :
    iprop(owns (c : Thread nD τ) arg1 fullShare x0 ∗ owns (c : Thread nD τ) arg2 fullShare x1 ∗ owns (c : Thread nD τ) arg6 fullShare X
        ∗ (iprop(owns (c : Thread nD τ) arg1 fullShare x0 ∗ owns (c : Thread nD τ) arg2 fullShare x1
            ∗ (∃ Y : Vec F S2x1000x128 .f32, ⌜View.ld Y (slot (k1_off1 i) (k1_off1_inb i)) = k1_pay1 x0 x1⌝ ∗ owns (c : Thread nD τ) arg6 fullShare Y)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f6, %hf6, H6⟩, Hk⟩
  sl_exec
  sl_step
  have e0 : arg1.view.readAt (Elt F) (Rect.unit (s := S1000x10000) ![0, 0] S1000x10000.size inb_S1000x10000_S1000x10000_0_0).toLoadRect f0 = x0 :=
    (View.ld_unit_lit _ (arg1.view.read (Elt F) f0) (by decide)).trans hf0
  have e1 : arg2.view.readAt (Elt F) (Rect.unit (s := S10000x128) ![0, 0] S10000x128.size inb_S10000x128_S10000x128_0_0).toLoadRect f1 = x1 :=
    (View.ld_unit_lit _ (arg2.view.read (Elt F) f1) (by decide)).trans hf1
  iapply Hk
  isplitl [H0]
  · iexists f0; isplitr; · ipureintro; exact hf0
    iexact H0
  isplitl [H1]
  · iexists f1; isplitr; · ipureintro; exact hf1
    iexact H1
  iexists _; isplitr
  swap
  · iexists _; isplitr
    swap; · iexact H6
    ipureintro; rfl
  ipureintro
  refine (slot_same _ _ _ _ _).trans ?_
  rw [← e0, ← e1]

set_option maxHeartbeats 4000000 in
/-- A later grid point of the second region: it fills its slot of the scratch buffer and computes both output blocks from the
    other slot. -/
theorem body1_next (c : Dev nD) (E : Set ℕ) (i : grid1.Coords) (hc : k1_cond1 i = 1#1) (arg1 : Memref sig .tc .vmem S1000x10000 .bf16) (harg1 : arg1.IsWhole) (arg2 : Memref sig .tc .vmem S10000x128 .bf16) (harg2 : arg2.IsWhole) (arg3 : Memref sig .tc .vmem S1024x128 .f32) (harg3 : arg3.IsWhole) (arg4 : Memref sig .tc .vmem S1000x128 .bf16) (harg4 : arg4.IsWhole) (arg5 : Memref sig .tc .vmem S1000x128 .f32) (harg5 : arg5.IsWhole) (arg6 : Memref sig .tc .vmem S2x1000x128 .f32) (harg6 : arg6.IsWhole)
    (x0 : Vec F S1000x10000 .bf16) (x1 : Vec F S10000x128 .bf16) (x2 : Vec F S1024x128 .f32) (X : Vec F S2x1000x128 .f32)
    (x : Vec F S1x1000x128 .f32) (hX : View.ld X (slot (k1_off2 i) (k1_off2_inb i hc)) = x) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare X
        ∗ (iprop(owns (c : Thread nD τ) arg1 fullShare x0 ∗ owns (c : Thread nD τ) arg2 fullShare x1 ∗ owns (c : Thread nD τ) arg3 fullShare x2
            ∗ owns (c : Thread nD τ) arg4 fullShare (hid1 x x2) ∗ owns (c : Thread nD τ) arg5 fullShare (k1_pay2 x)
            ∗ (∃ Y : Vec F S2x1000x128 .f32, ⌜View.ld Y (slot (k1_off1 i) (k1_off1_inb i)) = k1_pay1 x0 x1⌝ ∗ owns (c : Thread nD τ) arg6 fullShare Y)) -∗ K ⟨⟩))
      ⊢ wp frame (wpE (defs₀ (F := F)) Variants.none c none) E (cc1__layer_kernel i arg1 harg1 arg2 harg2 arg3 harg3 arg4 harg4 arg5 harg5 arg6 harg6) K := by
  have hne : k1_off1 i 0 ≠ k1_off2 i 0 := by
    rw [k1_off1_eq, k1_off2_eq]
    show (i 0).val % 2 ≠ 1 - (i 0).val % 2
    omega
  simp only [cc1__layer_kernel_eq_skeleton]; unfold cc1__layer_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f6, %hf6, H6⟩, Hk⟩
  sl_exec
  sl_step
  have e0 : arg1.view.readAt (Elt F) (Rect.unit (s := S1000x10000) ![0, 0] S1000x10000.size inb_S1000x10000_S1000x10000_0_0).toLoadRect f0 = x0 :=
    (View.ld_unit_lit _ (arg1.view.read (Elt F) f0) (by decide)).trans hf0
  have e1 : arg2.view.readAt (Elt F) (Rect.unit (s := S10000x128) ![0, 0] S10000x128.size inb_S10000x128_S10000x128_0_0).toLoadRect f1 = x1 :=
    (View.ld_unit_lit _ (arg2.view.read (Elt F) f1) (by decide)).trans hf1
  have e2 : arg3.view.readAt (Elt F) (Rect.unit (s := S1024x128) ![0, 0] S1024x128.size inb_S1024x128_S1024x128_0_0).toLoadRect f2 = x2 :=
    (View.ld_unit_lit _ (arg3.view.read (Elt F) f2) (by decide)).trans hf2
  have ex := (slot_other arg6 f6 (k1_off1 i) (k1_off2 i) (k1_off1_inb i) (k1_off2_inb i hc)
    (k1_pay1 (arg1.view.readAt (Elt F) (Rect.unit (s := S1000x10000) ![0, 0] S1000x10000.size inb_S1000x10000_S1000x10000_0_0).toLoadRect f0)
      (arg2.view.readAt (Elt F) (Rect.unit (s := S10000x128) ![0, 0] S10000x128.size inb_S10000x128_S10000x128_0_0).toLoadRect f1)) hne).trans
      ((congrArg (fun Y => View.ld Y (slot (k1_off2 i) (k1_off2_inb i hc))) hf6).trans hX)
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (View.read_writes_full _ _ _ _ _).trans ?_
    unfold hid1
    rw [← ex, ← e2]; rfl
  isplitl [H4]
  · iexists _; isplitr
    swap; · iexact H4
    ipureintro
    refine (View.read_writes_full _ _ _ _ _).trans ?_
    rw [← ex]; rfl
  iexists _; isplitr
  swap
  · iexists _; isplitr
    swap; · iexact H6
    ipureintro; rfl
  ipureintro
  refine (slot_same _ _ _ _ _).trans ?_
  rw [← e0, ← e1]

/-- The product of adjacency block `t` with the hidden features, as the scratch slot holds it. -/
def dot1 (c : Dev nD) (t : Fin cfg1.N) : Vec F S1x1000x128 .f32 := k1_pay1 (blk1 V c 0 t) (blk1 V c 1 t)

/-- The grid point before `t`. -/
def prv1 (t : Fin cfg1.N) : Fin cfg1.N := ⟨t.val - 1, Nat.lt_of_le_of_lt (Nat.sub_le _ _) t.isLt⟩

/-- The scoped buffers of the program that are neither staging buffers of this region nor its scratch buffer. -/
abbrev others1 : List (Ref sig .tc) := [cc0_stg0_0, cc0_stg0_1, cc0_stg1_0, cc0_stg2_0, cc0_stg3_0, cc0_stg3_1, cc0_stg4_0, cc0_stg4_1, cc0_stg5_0, cc0_stg5_1, cc2_stg0_0, cc2_stg0_1, cc2_stg1_0, cc2_stg2_0, cc2_stg3_0, cc2_stg3_1, cc2_stg4_0, cc2_stg4_1, cc2_stg5_0, cc2_stg5_1, cc2_scratch0]

/-- What holds between grid points: the other scoped buffers and the generator register at some contents, and the scratch
    buffer with the slot of the last point at that point's product. -/
def inv1 (c : Dev nD) (p : ℕ) : sProp 𝕄 :=
  iprop((bigSepL others1 fun b => iprop(∃ f : Buf (Elt F) ((c : Thread nD τ).loc b), ((c : Thread nD τ).loc b) ↦{fullShare} f)) ∗ (∃ r, prngReg c r)
    ∗ ∃ X : Vec F S2x1000x128 .f32, ⌜∀ t : Fin cfg1.N, t.val + 1 = p → View.ld X (slot (k1_off1 (grid1.coords t)) (k1_off1_inb _)) = dot1 V c t⌝
      ∗ owns (c : Thread nD τ) (Memref.whole cc1_scratch0) fullShare X)

/-- What the second region keeps at each grid point: the arrays as found, each input buffer at its block, the output buffers at
    the layer's results on the block of the point before, and the scratch buffer as `inv1` says. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hid1 (dot1 V c (prv1 t)) (blk1 V c 2 t)
    | ⟨4, _⟩ => k1_pay2 (dot1 V c (prv1 t))
  Φ p := inv1 V c p.val
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = hid1 (dot1 V c (prv1 t)) (blk1 V c 2 t) := by dsimp only [dat1]
theorem after1_4 (c : Dev nD) (t : Fin cfg1.N) : (dat1 V c).after 4 t = k1_pay2 (dot1 V c (prv1 t)) := by dsimp only [dat1]

/-- Before the body each input buffer holds its block, whether it was fetched at this point or earlier. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)

/-- The conditional of the body is taken at every point but the first. -/
theorem cond1_iff : ∀ t : Fin grid1.N, k1_cond1 (grid1.coords t) = 1#1 ↔ 0 < t.val := by decide +kernel
/-- Neither output block is written back at the first point. -/
theorem flush1_3 : ∀ t : Fin grid1.N, t.val = 0 → win1_3.flush t = false := by decide +kernel
theorem flush1_4 : ∀ t : Fin grid1.N, t.val = 0 → win1_4.flush t = false := by decide +kernel
/-- The slot read at a point is the one stored at the point before. -/
theorem off1_prv : ∀ t : Fin grid1.N, 0 < t.val → k1_off2 (grid1.coords t) = k1_off1 (grid1.coords (prv1 t)) := by decide +kernel

/-- What the pipeline expects back of an output window's buffer. -/
def back1 (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dat1 V c).before w t d))
    | true => owns (c : Thread nD τ) ((cfg1.win w).stage (cfg1.slots t w)) fullShare ((dat1 V c).after w t)
  | false => owns (c : Thread nD τ) ((cfg1.win w).stage (cfg1.slots t w)) fullShare ((dat1 V c).after w t)

/-- At the first point an output buffer is handed back as it was found. -/
theorem back1_first (c : Dev nD) (w : Fin cfg1.W) (t : Fin cfg1.N) (hi : cfg1.idle w (cfg1.grid.coords t) = true) (hf : (cfg1.win w).flush t = false) :
    back1 V c w t = iprop(∃ d, owns (c : Thread nD τ) ((cfg1.win w).stage (cfg1.slots t w)) fullShare ((dat1 V c).before w t d)) := by
  unfold back1; rw [hi, hf]
/-- At a later point an output buffer is handed back at the body's result. -/
theorem back1_next (c : Dev nD) (w : Fin cfg1.W) (t : Fin cfg1.N) (hi : cfg1.idle w (cfg1.grid.coords t) = false) :
    back1 V c w t = owns (c : Thread nD τ) ((cfg1.win w).stage (cfg1.slots t w)) fullShare ((dat1 V c).after w t) := by
  unfold back1; rw [hi]

/-- The body at any grid point, from what the pipeline hands it to what the pipeline expects back. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ back1 V c 3 t
          ∗ back1 V c 4 t)) := by
  unfold bodyAt1
  simp only [before1_0, before1_1, before1_2]
  rw [show (dat1 V c).Φ t.castSucc = inv1 V c t.val from rfl, show (dat1 V c).Φ t.succ = inv1 V c (t.val + 1) from rfl,
    show (dat1 V c).owesAt () t.succ = (dat1 V c).owesAt () t.castSucc from rfl, after1_0, after1_1, after1_2]
  unfold inv1
  by_cases h : 0 < t.val
  · have hc := (cond1_iff t).mpr h
    have hi : (!(k1_cond1 (grid1.coords t) == 1#1)) = false := by rw [hc]; rfl
    rw [back1_next V c 3 t hi, back1_next V c 4 t hi, after1_3, after1_4]
    iintro ⟨⟨Hr, Hg, %X, %hX, H6⟩, Ho, ⟨%d0, H0⟩, ⟨%d1, H1⟩, ⟨%d2, H2⟩, ⟨%d3, H3⟩, ⟨%d4, H4⟩⟩
    iapply (body1_next c Set.univ (grid1.coords t) hc _ _ _ _ _ _ _ _ _ _ _ _ (blk1 V c 0 t) (blk1 V c 1 t) (blk1 V c 2 t) X (dot1 V c (prv1 t))
      ((slot_congr X (off1_prv t h) _ _).trans (hX (prv1 t) (by show t.val - 1 + 1 = t.val; omega))) _)
    isplitl [H0]; · iexact H0
    isplitl [H1]; · iexact H1
    isplitl [H2]; · iexact H2
    isplitl [H3]; · iexists _; iexact H3
    isplitl [H4]; · iexists _; iexact H4
    isplitl [H6]; · iexact H6
    iintro ⟨H0, H1, H2, H3, H4, ⟨%Y, %hY, H6⟩⟩
    isplitl [Hr Hg H6]
    · isplitl [Hr]; · iexact Hr
      isplitl [Hg]; · iexact Hg
      iexists Y
      isplitr; swap; · iexact H6
      ipureintro
      intro u hu
      obtain rfl : u = t := Fin.ext (by omega)
      exact hY
    isplitl [Ho]; · iexact Ho
    isplitl [H0]; · iexact H0
    isplitl [H1]; · iexact H1
    isplitl [H2]; · iexact H2
    isplitl [H3]; · iexact H3
    iexact H4
  · have hc := fun h' => h ((cond1_iff t).mp h')
    have hi : (!(k1_cond1 (grid1.coords t) == 1#1)) = true := by
      rw [beq_eq_false_iff_ne.mpr hc]; rfl
    rw [back1_first V c 3 t hi (flush1_3 t (by omega)), back1_first V c 4 t hi (flush1_4 t (by omega))]
    iintro ⟨⟨Hr, Hg, %X, %hX, H6⟩, Ho, ⟨%d0, H0⟩, ⟨%d1, H1⟩, ⟨%d2, H2⟩, H3, H4⟩
    iapply (body1_first c Set.univ (grid1.coords t) hc _ _ _ _ _ _ _ _ _ _ _ _ (blk1 V c 0 t) (blk1 V c 1 t) X _)
    isplitl [H0]; · iexact H0
    isplitl [H1]; · iexact H1
    isplitl [H6]; · iexact H6
    iintro ⟨H0, H1, ⟨%Y, %hY, H6⟩⟩
    isplitl [Hr Hg H6]
    · isplitl [Hr]; · iexact Hr
      isplitl [Hg]; · iexact Hg
      iexists Y
      isplitr; swap; · iexact H6
      ipureintro
      intro u hu
      obtain rfl : u = t := Fin.ext (by omega)
      exact hY
    isplitl [Ho]; · iexact Ho
    isplitl [H0]; · iexact H0
    isplitl [H1]; · iexact H1
    isplitl [H2]; · iexact H2
    isplitl [H3]; · iexact H3
    iexact H4

theorem row1 (t : Fin cfg1.N) : defs₀ (F := F) .tc cfg1.body (cfg1.bodyArgs t (cfg1.slots t)) = bodyAt1 t := by
  unfold defs₀; rw [Defs.onTc_tc]

/-- The second region's body meets the pipeline's obligation at every grid point. -/
theorem obligation1 (c : Dev nD) : BodyObligation (dat1 (F := F) V c) (defs₀ (F := F)) Variants.none () Set.univ := fun t => by
  rw [bigSep_W1, bigSep_W1, row1]
  exact triple_restated (point1 V c t) rfl .rfl fun _ => .rfl

/-- The scoped buffers outside the staging buffers are the scratch buffer and the others. -/
theorem rest1 (c : Dev nD) : (Pipeline.scopedRest spec1 c : sProp 𝕄)
    = iprop((∃ f : Vec F S2x1000x128 .f32, owns (c : Thread nD τ) (Memref.whole cc1_scratch0) fullShare f)
      ∗ (bigSepL others1 fun b => iprop(∃ f : Buf (Elt F) ((c : Thread nD τ).loc b), ((c : Thread nD τ).loc b) ↦{fullShare} f))) := by
  simp only [owns_whole]
  exact (Pipeline.scopedRest_eq_of_list spec1 c (cc1_scratch0 :: others1) (by decide) (by decide)).trans rfl

/-- Before the first point nothing is asked of the scratch buffer. -/
theorem enter1 (c : Dev nD) : (Pipeline.ΦA spec1 c : sProp 𝕄) ⊢ (dat1 (F := F) V c).Φ 0 := by
  show _ ⊢ inv1 V c 0
  unfold Pipeline.ΦA inv1
  rw [rest1]
  iintro ⟨⟨⟨%f, Hs⟩, Hr⟩, Hg⟩
  isplitl [Hr]; · iexact Hr
  isplitl [Hg]; · iexact Hg
  iexists f
  isplitr; swap; · iexact Hs
  ipureintro
  intro t ht
  exact absurd ht (Nat.succ_ne_zero _)

/-- After the last point the scratch buffer is given back at whatever it holds. -/
theorem leave1 (c : Dev nD) : (dat1 (F := F) V c).Φ (Fin.last _) ⊢ (Pipeline.ΦA spec1 c : sProp 𝕄) := by
  show inv1 V c _ ⊢ _
  unfold Pipeline.ΦA inv1
  rw [rest1]
  iintro ⟨Hr, Hg, %X, -, Hs⟩
  isplitr [Hg]
  · isplitl [Hs]; · iexists X; iexact Hs
    iexact Hr
  iexact Hg

end Cert.KernelIdeal.Layers

end
-- ==== Proof.KernelIdeal.Region2.lean ====
/-
  The third kernel region of the program (`cc2__out_kernel`, 11 grid points, blocks of 1000 rows), entered at any contents `V`
  of the core's buffers. Point `t` stores the product of adjacency block `t` with the second layer's hidden features into slot
  `t % 2` of a two-slot scratch buffer; from point 1 on it reads the other slot, which holds the product of point `t - 1`, and
  from it, the two stored aggregates and the three weight slices writes the output block of index `t - 1`.
-/
module

public import proofs.«01_k».proof.Proof.KernelIdeal.Region1

@[expose] public section

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, cut out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three weight slices. -/
abbrev rw0 : Rect S3x1024x64 := Rect.unit (s := S3x1024x64) ![0, 0, 0] S1x1024x64.size inb_S3x1024x64_S1x1024x64_0_0_0
abbrev rw1 : Rect S3x1024x64 := Rect.unit (s := S3x1024x64) ![1, 0, 0] S1x1024x64.size inb_S3x1024x64_S1x1024x64_1_0_0
abbrev rw2 : Rect S3x1024x64 := Rect.unit (s := S3x1024x64) ![2, 0, 0] S1x1024x64.size inb_S3x1024x64_S1x1024x64_2_0_0

/-- The first aggregate's share of the output. -/
def outA (p : Vec F S1000x128 .f32) (w : Vec F S1x1024x64 .f32) : FVec F S1000x64 .f32 :=
  k2_pay23 (k2_pay4 p) (k2_pay5 p) (k2_pay6 p) (k2_pay11 (k2_pay8 p) (k2_pay9 p) (k2_pay10 (F := F))) (k2_pay12 (k2_pay4 p))
    (k2_pay17 (k2_pay14 (k2_pay4 p)) (k2_pay15 (k2_pay4 p)) (k2_pay16 (F := F))) (k2_pay18 (k2_pay4 p)) (k2_pay20 (k2_pay4 p)) (k2_pay21 (k2_pay4 p)) (k2_pay22 (F := F)) w
/-- The second aggregate's share, added to the first's. -/
def outB (acc : FVec F S1000x64 .f32) (p : Vec F S1000x128 .f32) (w : Vec F S1x1024x64 .f32) : FVec F S1000x64 .f32 :=
  k2_pay35 acc (k2_pay25 p) (k2_pay26 (k2_pay24 p)) (k2_pay27 (k2_pay25 p)) (k2_pay29 (k2_pay28 (k2_pay25 p)) (Named.named κ "sixth" 0x3E2AAAAB#32)) (k2_pay30 (k2_pay25 p))
    (k2_pay32 (k2_pay31 (k2_pay25 p)) (Named.named κ "sixth" 0x3E2AAAAB#32)) (k2_pay33 (k2_pay25 p)) (k2_pay34 (k2_pay25 p)) (Named.named κ "sixth" 0x3E2AAAAB#32) w
/-- The third aggregate's share, added to the others': the output block. -/
def outC (acc : FVec F S1000x64 .f32) (x : Vec F S1x1000x128 .f32) (w : Vec F S1x1024x64 .f32) : FVec F S1000x64 .f32 :=
  k2_pay2 acc (k2_pay38 x) (k2_pay40 (k2_pay39 x) (Scalar.ofBits .f32 0x40000000#32)) (k2_pay41 (k2_pay37 x))
    (k2_pay43 (k2_pay42 (k2_pay37 x)) (Scalar.ofBits .f32 0x40000000#32)) (k2_pay44 (k2_pay37 x)) (k2_pay46 (k2_pay45 (k2_pay37 x)) (Scalar.ofBits .f32 0x40000000#32))
    (k2_pay47 (k2_pay37 x)) (k2_pay48 (k2_pay37 x)) (Scalar.ofBits .f32 0x40000000#32) w
/-- The output block from the three aggregates and the weights. -/
def out2 (x : Vec F S1x1000x128 .f32) (W : Vec F S3x1024x64 .f32) (p1 p2 : Vec F S1000x128 .f32) : FVec F S1000x64 .f32 :=
  outC (outB (outA p1 (View.ld W rw0)) p2 (View.ld W rw1)) x (View.ld W rw2)

set_option maxHeartbeats 4000000 in
/-- The first grid point of the third region only fills its slot of the scratch buffer. -/
theorem body2_first (c : Dev nD) (E : Set ℕ) (i : grid2.Coords) (hc : ¬ k2_cond1 i = 1#1) (arg1 : Memref sig .tc .vmem S1000x10000 .bf16) (harg1 : arg1.IsWhole) (arg2 : Memref sig .tc .vmem S10000x128 .bf16) (harg2 : arg2.IsWhole) (arg3 : Memref sig .tc .vmem S3x1024x64 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x64 .f32) (harg6 : arg6.IsWhole) (arg7 : Memref sig .tc .vmem S2x1000x128 .f32) (harg7 : arg7.IsWhole)
    (x0 : Vec F S1000x10000 .bf16) (x1 : Vec F S10000x128 .bf16) (X : Vec F S2x1000x128 .f32) (K : PUnit → sProp 𝕄) :
    iprop(owns (c : Thread nD τ) arg1 fullShare x0 ∗ owns (c : Thread nD τ) arg2 fullShare x1 ∗ owns (c : Thread nD τ) arg7 fullShare X
        ∗ (iprop(owns (c : Thread nD τ) arg1 fullShare x0 ∗ owns (c : Thread nD τ) arg2 fullShare x1
            ∗ (∃ Y : Vec F S2x1000x128 .f32, ⌜View.ld Y (slot (k2_off1 i) (k2_off1_inb i)) = k2_pay1 x0 x1⌝ ∗ owns (c : Thread nD τ) arg7 fullShare Y)) -∗ K ⟨⟩))
      ⊢ wp frame (wpE (defs₀ (F := F)) Variants.none c none) E (cc2__out_kernel i arg1 harg1 arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f6, %hf6, H6⟩, Hk⟩
  sl_exec
  sl_step
  have e0 : arg1.view.readAt (Elt F) (Rect.unit (s := S1000x10000) ![0, 0] S1000x10000.size inb_S1000x10000_S1000x10000_0_0).toLoadRect f0 = x0 :=
    (View.ld_unit_lit _ (arg1.view.read (Elt F) f0) (by decide)).trans hf0
  have e1 : arg2.view.readAt (Elt F) (Rect.unit (s := S10000x128) ![0, 0] S10000x128.size inb_S10000x128_S10000x128_0_0).toLoadRect f1 = x1 :=
    (View.ld_unit_lit _ (arg2.view.read (Elt F) f1) (by decide)).trans hf1
  iapply Hk
  isplitl [H0]
  · iexists f0; isplitr; · ipureintro; exact hf0
    iexact H0
  isplitl [H1]
  · iexists f1; isplitr; · ipureintro; exact hf1
    iexact H1
  iexists _; isplitr
  swap
  · iexists _; isplitr
    swap; · iexact H6
    ipureintro; rfl
  ipureintro
  refine (slot_same _ _ _ _ _).trans ?_
  rw [← e0, ← e1]

set_option maxHeartbeats 4000000 in
/-- A later grid point of the third region: it fills its slot of the scratch buffer and computes the output block from the
    other slot, the two stored aggregates and the weights. -/
theorem body2_next (c : Dev nD) (E : Set ℕ) (i : grid2.Coords) (hc : k2_cond1 i = 1#1) (arg1 : Memref sig .tc .vmem S1000x10000 .bf16) (harg1 : arg1.IsWhole) (arg2 : Memref sig .tc .vmem S10000x128 .bf16) (harg2 : arg2.IsWhole) (arg3 : Memref sig .tc .vmem S3x1024x64 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x64 .f32) (harg6 : arg6.IsWhole) (arg7 : Memref sig .tc .vmem S2x1000x128 .f32) (harg7 : arg7.IsWhole)
    (x0 : Vec F S1000x10000 .bf16) (x1 : Vec F S10000x128 .bf16) (x2 : Vec F S3x1024x64 .f32) (x3 x4 : Vec F S1000x128 .f32) (X : Vec F S2x1000x128 .f32)
    (x : Vec F S1x1000x128 .f32) (hX : View.ld X (slot (k2_off2 i) (k2_off2_inb i hc)) = x) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d) ∗ owns (c : Thread nD τ) arg7 fullShare X
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out2 x x2 x3 x4)
            ∗ (∃ Y : Vec F S2x1000x128 .f32, ⌜View.ld Y (slot (k2_off1 i) (k2_off1_inb i)) = k2_pay1 x0 x1⌝ ∗ owns (c : Thread nD τ) arg7 fullShare Y)) -∗ K ⟨⟩))
      ⊢ wp frame (wpE (defs₀ (F := F)) Variants.none c none) E (cc2__out_kernel i arg1 harg1 arg2 harg2 arg3 harg3 arg4 harg4 arg5 harg5 arg6 harg6 arg7 harg7) K := by
  have hne : k2_off1 i 0 ≠ k2_off2 i 0 := by
    rw [k2_off1_eq, k2_off2_eq]
    show (i 0).val % 2 ≠ 1 - (i 0).val % 2
    omega
  simp only [cc2__out_kernel_eq_skeleton]; unfold cc2__out_kernel_skel
  simp only [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  sl_exec
  sl_step
  have e0 : arg1.view.readAt (Elt F) (Rect.unit (s := S1000x10000) ![0, 0] S1000x10000.size inb_S1000x10000_S1000x10000_0_0).toLoadRect f0 = x0 :=
    (View.ld_unit_lit _ (arg1.view.read (Elt F) f0) (by decide)).trans hf0
  have e1 : arg2.view.readAt (Elt F) (Rect.unit (s := S10000x128) ![0, 0] S10000x128.size inb_S10000x128_S10000x128_0_0).toLoadRect f1 = x1 :=
    (View.ld_unit_lit _ (arg2.view.read (Elt F) f1) (by decide)).trans hf1
  have e20 : arg3.view.readAt (Elt F) rw0.toLoadRect f2 = View.ld x2 rw0 := congrArg (fun Y => View.ld Y rw0) hf2
  have e21 : arg3.view.readAt (Elt F) rw1.toLoadRect f2 = View.ld x2 rw1 := congrArg (fun Y => View.ld Y rw1) hf2
  have e22 : arg3.view.readAt (Elt F) rw2.toLoadRect f2 = View.ld x2 rw2 := congrArg (fun Y => View.ld Y rw2) hf2
  have e3 : arg4.view.readAt (Elt F) (Rect.unit (s := S1000x128) ![0, 0] S1000x128.size inb_S1000x128_S1000x128_0_0).toLoadRect f3 = x3 :=
    (View.ld_unit_lit _ (arg4.view.read (Elt F) f3) (by decide)).trans hf3
  have e4 : arg5.view.readAt (Elt F) (Rect.unit (s := S1000x128) ![0, 0] S1000x128.size inb_S1000x128_S1000x128_0_0).toLoadRect f4 = x4 :=
    (View.ld_unit_lit _ (arg5.view.read (Elt F) f4) (by decide)).trans hf4
  have ex := (slot_other arg7 f6 (k2_off1 i) (k2_off2 i) (k2_off1_inb i) (k2_off2_inb i hc)
    (k2_pay1 (arg1.view.readAt (Elt F) (Rect.unit (s := S1000x10000) ![0, 0] S1000x10000.size inb_S1000x10000_S1000x10000_0_0).toLoadRect f0)
      (arg2.view.readAt (Elt F) (Rect.unit (s := S10000x128) ![0, 0] S10000x128.size inb_S10000x128_S10000x128_0_0).toLoadRect f1)) hne).trans
      ((congrArg (fun Y => View.ld Y (slot (k2_off2 i) (k2_off2_inb i hc))) hf6).trans hX)
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr
    swap; · iexact H5
    ipureintro
    refine (View.read_writes_full _ _ _ _ _).trans ?_
    unfold out2 outC outB outA
    rw [← ex, ← e20, ← e21, ← e22, ← e3, ← e4]; rfl
  iexists _; isplitr
  swap
  · iexists _; isplitr
    swap; · iexact H6
    ipureintro; rfl
  ipureintro
  refine (slot_same _ _ _ _ _).trans ?_
  rw [← e0, ← e1]

/-- The product of adjacency block `t` with the hidden features, as the scratch slot holds it. -/
def dot2 (c : Dev nD) (t : Fin cfg2.N) : Vec F S1x1000x128 .f32 := k2_pay1 (blk2 V c 0 t) (blk2 V c 1 t)

/-- The grid point before `t`. -/
def prv2 (t : Fin cfg2.N) : Fin cfg2.N := ⟨t.val - 1, Nat.lt_of_le_of_lt (Nat.sub_le _ _) t.isLt⟩

/-- The scoped buffers of the program that are neither staging buffers of this region nor its scratch buffer. -/
abbrev others2 : List (Ref sig .tc) := [cc0_stg0_0, cc0_stg0_1, cc0_stg1_0, cc0_stg2_0, cc0_stg3_0, cc0_stg3_1, cc0_stg4_0, cc0_stg4_1, cc0_stg5_0, cc0_stg5_1, cc1_stg0_0, cc1_stg0_1, cc1_stg1_0, cc1_stg2_0, cc1_stg3_0, cc1_stg3_1, cc1_stg4_0, cc1_stg4_1, cc1_scratch0]

/-- What holds between grid points: the other scoped buffers and the generator register at some contents, and the scratch
    buffer with the slot of the last point at that point's product. -/
def inv2 (c : Dev nD) (p : ℕ) : sProp 𝕄 :=
  iprop((bigSepL others2 fun b => iprop(∃ f : Buf (Elt F) ((c : Thread nD τ).loc b), ((c : Thread nD τ).loc b) ↦{fullShare} f)) ∗ (∃ r, prngReg c r)
    ∗ ∃ X : Vec F S2x1000x128 .f32, ⌜∀ t : Fin cfg2.N, t.val + 1 = p → View.ld X (slot (k2_off1 (grid2.coords t)) (k2_off1_inb _)) = dot2 V c t⌝
      ∗ owns (c : Thread nD τ) (Memref.whole cc2_scratch0) fullShare X)

/-- What the third region keeps at each grid point: the arrays as found, each input buffer at its block, the output buffer at
    the result on the block of the point before, and the scratch buffer as `inv2` says. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 (dot2 V c (prv2 t)) (blk2 V c 2 t) (blk2 V c 3 t) (blk2 V c 4 t)
  Φ p := inv2 V c p.val
  q _ := fullShare
  owed _ := 0

theorem dat2_A (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = out2 (dot2 V c (prv2 t)) (blk2 V c 2 t) (blk2 V c 3 t) (blk2 V c 4 t) := by dsimp only [dat2]

/-- Before the body each input buffer holds its block, whether it was fetched at this point or earlier. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [dat2_A]; try rfl) t d).trans
    (by unfold Dat.fetched Dat.blockOf blk2; rw [dat2_A]; try rfl)

/-- The conditional of the body is taken at every point but the first. -/
theorem cond2_iff : ∀ t : Fin grid2.N, k2_cond1 (grid2.coords t) = 1#1 ↔ 0 < t.val := by decide +kernel
/-- The output block is not written back at the first point. -/
theorem flush2_5 : ∀ t : Fin grid2.N, t.val = 0 → win2_5.flush t = false := by decide +kernel
/-- The slot read at a point is the one stored at the point before. -/
theorem off2_prv : ∀ t : Fin grid2.N, 0 < t.val → k2_off2 (grid2.coords t) = k2_off1 (grid2.coords (prv2 t)) := by decide +kernel

/-- What the pipeline expects back of the output window's buffer. -/
def back2 (c : Dev nD) (w : Fin cfg2.W) (t : Fin cfg2.N) : sProp 𝕄 :=
  match cfg2.idle w (cfg2.grid.coords t) with
  | true =>
    match (cfg2.win w).flush t with
    | false => iprop(∃ d, owns (c : Thread nD τ) ((cfg2.win w).stage (cfg2.slots t w)) fullShare ((dat2 V c).before w t d))
    | true => owns (c : Thread nD τ) ((cfg2.win w).stage (cfg2.slots t w)) fullShare ((dat2 V c).after w t)
  | false => owns (c : Thread nD τ) ((cfg2.win w).stage (cfg2.slots t w)) fullShare ((dat2 V c).after w t)

/-- At the first point an output buffer is handed back as it was found. -/
theorem back2_first (c : Dev nD) (w : Fin cfg2.W) (t : Fin cfg2.N) (hi : cfg2.idle w (cfg2.grid.coords t) = true) (hf : (cfg2.win w).flush t = false) :
    back2 V c w t = iprop(∃ d, owns (c : Thread nD τ) ((cfg2.win w).stage (cfg2.slots t w)) fullShare ((dat2 V c).before w t d)) := by
  unfold back2; rw [hi, hf]
/-- At a later point an output buffer is handed back at the body's result. -/
theorem back2_next (c : Dev nD) (w : Fin cfg2.W) (t : Fin cfg2.N) (hi : cfg2.idle w (cfg2.grid.coords t) = false) :
    back2 V c w t = owns (c : Thread nD τ) ((cfg2.win w).stage (cfg2.slots t w)) fullShare ((dat2 V c).after w t) := by
  unfold back2; rw [hi]

/-- The body at any grid point, from what the pipeline hands it to what the pipeline expects back. -/
theorem point2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t)
          ∗ owns (c : Thread nD τ) (st2_4 t) fullShare ((dat2 V c).after 4 t)
          ∗ back2 V c 5 t)) := by
  unfold bodyAt2
  simp only [before2_0, before2_1, before2_2, before2_3, before2_4]
  rw [show (dat2 V c).Φ t.castSucc = inv2 V c t.val from rfl, show (dat2 V c).Φ t.succ = inv2 V c (t.val + 1) from rfl,
    show (dat2 V c).owesAt () t.succ = (dat2 V c).owesAt () t.castSucc from rfl, after2_0, after2_1, after2_2, after2_3, after2_4]
  unfold inv2
  by_cases h : 0 < t.val
  · have hc := (cond2_iff t).mpr h
    have hi : (!(k2_cond1 (grid2.coords t) == 1#1)) = false := by rw [hc]; rfl
    rw [back2_next V c 5 t hi, after2_5]
    iintro ⟨⟨Hr, Hg, %X, %hX, H6⟩, Ho, ⟨%d0, H0⟩, ⟨%d1, H1⟩, ⟨%d2, H2⟩, ⟨%d3, H3⟩, ⟨%d4, H4⟩, ⟨%d5, H5⟩⟩
    iapply (body2_next c Set.univ (grid2.coords t) hc _ _ _ _ _ _ _ _ _ _ _ _ _ _ (blk2 V c 0 t) (blk2 V c 1 t) (blk2 V c 2 t) (blk2 V c 3 t) (blk2 V c 4 t) X (dot2 V c (prv2 t))
      ((slot_congr X (off2_prv t h) _ _).trans (hX (prv2 t) (by show t.val - 1 + 1 = t.val; omega))) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, ⟨%Y, %hY, H6⟩⟩
    isplitl [Hr Hg H6]
    · isplitl [Hr]; · iexact Hr
      isplitl [Hg]; · iexact Hg
      iexists Y
      isplitr; swap; · iexact H6
      ipureintro
      intro u hu
      obtain rfl : u = t := Fin.ext (by omega)
      exact hY
    isplitl [Ho]; · iexact Ho
    isplitl [H0]; · iexact H0
    isplitl [H1]; · iexact H1
    isplitl [H2]; · iexact H2
    isplitl [H3]; · iexact H3
    isplitl [H4]; · iexact H4
    iexact H5
  · have hc := fun h' => h ((cond2_iff t).mp h')
    have hi : (!(k2_cond1 (grid2.coords t) == 1#1)) = true := by
      rw [beq_eq_false_iff_ne.mpr hc]; rfl
    rw [back2_first V c 5 t hi (flush2_5 t (by omega))]
    iintro ⟨⟨Hr, Hg, %X, %hX, H6⟩, Ho, ⟨%d0, H0⟩, ⟨%d1, H1⟩, ⟨%d2, H2⟩, ⟨%d3, H3⟩, ⟨%d4, H4⟩, H5⟩
    iapply (body2_first c Set.univ (grid2.coords t) hc _ _ _ _ _ _ _ _ _ _ _ _ _ _ (blk2 V c 0 t) (blk2 V c 1 t) X _)
    isplitl [H0]; · iexact H0
    isplitl [H1]; · iexact H1
    isplitl [H6]; · iexact H6
    iintro ⟨H0, H1, ⟨%Y, %hY, H6⟩⟩
    isplitl [Hr Hg H6]
    · isplitl [Hr]; · iexact Hr
      isplitl [Hg]; · iexact Hg
      iexists Y
      isplitr; swap; · iexact H6
      ipureintro
      intro u hu
      obtain rfl : u = t := Fin.ext (by omega)
      exact hY
    isplitl [Ho]; · iexact Ho
    isplitl [H0]; · iexact H0
    isplitl [H1]; · iexact H1
    isplitl [H2]; · iexact H2
    isplitl [H3]; · iexact H3
    isplitl [H4]; · iexact H4
    iexact H5

theorem row2 (t : Fin cfg2.N) : defs₀ (F := F) .tc cfg2.body (cfg2.bodyArgs t (cfg2.slots t)) = bodyAt2 t := by
  unfold defs₀; rw [Defs.onTc_tc]

/-- The third region's body meets the pipeline's obligation at every grid point. -/
theorem obligation2 (c : Dev nD) : BodyObligation (dat2 (F := F) V c) (defs₀ (F := F)) Variants.none () Set.univ := fun t => by
  rw [bigSep_W2, bigSep_W2, row2]
  exact triple_restated (point2 V c t) rfl .rfl fun _ => .rfl

/-- The scoped buffers outside the staging buffers are the scratch buffer and the others. -/
theorem rest2 (c : Dev nD) : (Pipeline.scopedRest spec2 c : sProp 𝕄)
    = iprop((∃ f : Vec F S2x1000x128 .f32, owns (c : Thread nD τ) (Memref.whole cc2_scratch0) fullShare f)
      ∗ (bigSepL others2 fun b => iprop(∃ f : Buf (Elt F) ((c : Thread nD τ).loc b), ((c : Thread nD τ).loc b) ↦{fullShare} f))) := by
  simp only [owns_whole]
  exact (Pipeline.scopedRest_eq_of_list spec2 c (cc2_scratch0 :: others2) (by decide) (by decide)).trans rfl

/-- Before the first point nothing is asked of the scratch buffer. -/
theorem enter2 (c : Dev nD) : (Pipeline.ΦA spec2 c : sProp 𝕄) ⊢ (dat2 (F := F) V c).Φ 0 := by
  show _ ⊢ inv2 V c 0
  unfold Pipeline.ΦA inv2
  rw [rest2]
  iintro ⟨⟨⟨%f, Hs⟩, Hr⟩, Hg⟩
  isplitl [Hr]; · iexact Hr
  isplitl [Hg]; · iexact Hg
  iexists f
  isplitr; swap; · iexact Hs
  ipureintro
  intro t ht
  exact absurd ht (Nat.succ_ne_zero _)

/-- After the last point the scratch buffer is given back at whatever it holds. -/
theorem leave2 (c : Dev nD) : (dat2 (F := F) V c).Φ (Fin.last _) ⊢ (Pipeline.ΦA spec2 c : sProp 𝕄) := by
  show inv2 V c _ ⊢ _
  unfold Pipeline.ΦA inv2
  rw [rest2]
  iintro ⟨Hr, Hg, %X, -, Hs⟩
  isplitr [Hg]
  · isplitl [Hs]; · iexists X; iexact Hs
    iexact Hr
  iexact Hg

end Cert.KernelIdeal.Layers

end
-- ==== Proof.KernelIdeal.Run.lean ====
/-
  The run of the whole program: the host operations that prepare the weights, then the three kernel regions. Every fair run
  from a launch memory terminates without fault, leaves the arguments as launched and every semaphore counter at zero, and
  ends with each buffer at the contents the fold below names; the result array in particular.
-/
module

public import proofs.«01_k».proof.Proof.Gen.KernelIdeal.Regions
public import proofs.«01_k».proof.Proof.KernelIdeal.Region2

@[expose] public section

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (cellOf_inj launch0 launch1 launch2 main_chain adm hostOps0 hostOps0_W hostOps0_writes hostOps0_fresh hostOps0_sub)

variable {F : FTy → Type} [FloatOps F] [Named F]

local notation "𝕄" => MT nD τ sig Unit (Elt F) ℕ (UR sig nD τ) ℕ

/-- Pipeline `p`'s configuration as the launch reads it. -/
abbrev pc (p : Fin 3) : Cfg sig Λ₀ := Pipeline.pin (pcfgs (F := F)) adm p

/-- Buffer contents read at the core's own references. -/
abbrev rd (W : Dev nD → Valuation τ sig (Elt F)) : (c : Dev nD) → (b : Ref sig .tc) → Buf (Elt F) ((c : Thread nD τ).loc b) := fun c b => W c b

/-! ## What a region leaves -/

section Leave

variable (p : Fin 3) (hl : Pipeline.LaunchFacts (nD := nD) (τ := τ) cfgs p) (W : Dev nD → Valuation τ sig (Elt F))
  (D : (c : Dev nD) → Dat τ (Elt F) Unit ℕ (UR sig nD τ) ℕ (pc (F := F) p) c)

/-- The buffers after region `p`: its arrays at what its write-backs leave, every other buffer as before. -/
def leave (c : Dev nD) : Valuation τ sig (Elt F) :=
  Pipeline.withArrays (pc (F := F) p).spec c (W c) fun w => (D c).arrAt w (pc (F := F) p).N

include hl in
theorem leave_arr (c : Dev nD) (w : Fin (pc (F := F) p).W) :
    leave p W D c (Proc.devRef .tc (Pipeline.arrRef (pc (F := F) p).spec w)) = (D c).arrAt w (pc (F := F) p).N := by
  unfold leave; exact Pipeline.withArrays_arr _ hl.win.arr_inj c _ _ w

theorem leave_of_ne (c : Dev nD) (b : Ref sig .tc) (hb : ∀ w, Pipeline.arrRef (pc (F := F) p).spec w ≠ b) :
    leave p W D c (Proc.devRef .tc b) = W c (Proc.devRef .tc b) := by
  unfold leave; exact Pipeline.withArrays_of_ne _ c _ _ b hb

include hl in
/-- A buffer that is none of the region's output arrays is as before. -/
theorem leave_of (hA : ∀ c w, (D c).A w = rd W c (Pipeline.arrRef (pc (F := F) p).spec w)) (c : Dev nD) (r : Ref sig .tc)
    (h : ∀ w, Pipeline.arrRef (pc (F := F) p).spec w = r → ((pc (F := F) p).win w).isOut = false) :
    leave p W D c (Proc.devRef .tc r) = W c (Proc.devRef .tc r) := by
  by_cases hw : ∃ w, Pipeline.arrRef (pc (F := F) p).spec w = r
  · obtain ⟨w, rfl⟩ := hw
    exact (leave_arr p hl W D c w).trans (((D c).arrAt_in w (h w rfl) _).trans (hA c w))
  · exact leave_of_ne p W D c r fun w e => hw ⟨w, e⟩

end Leave

variable (m : (ℓ : Loc nD τ sig) → Buf (Elt F) ℓ) (ρ : Dev nD → PrngReg)

/-! ## The buffers between the program's items -/

/-- At launch. -/
abbrev W0 : Dev nD → Valuation τ sig (Elt F) := fun c b => m (c, b)
/-- After the host operations. -/
def W1 : Dev nD → Valuation τ sig (Elt F) := fun c => StableHlo.after hostOps0 (W0 m c)
/-- After the first region. -/
def W2 : Dev nD → Valuation τ sig (Elt F) := leave 0 (W1 m) (dat0 (rd (W1 m)))
/-- After the second region. -/
def W3 : Dev nD → Valuation τ sig (Elt F) := leave 1 (W2 m) (dat1 (rd (W2 m)))
/-- After the third region. -/
def W4 : Dev nD → Valuation τ sig (Elt F) := leave 2 (W3 m) (dat2 (rd (W3 m)))

/-- The program's arguments. -/
abbrev argRefs : List (Ref sig .tc) := [main_arg0, main_arg1, main_arg2, main_arg3, main_arg4, main_arg5, main_arg6, main_arg7, main_arg8, main_arg9, main_arg10]

theorem args0 : ∀ a ∈ argRefs, a ∉ hostOps0_W := ListAll.forall_mem_of_all_decide (by decide +kernel)
theorem args1 : ∀ a ∈ argRefs, ∀ w : Fin cfg0.W, Pipeline.arrRef spec0 w = a → (cfg0.win w).isOut = false := ListAll.forall_mem_of_all_decide (by decide +kernel)
theorem args2 : ∀ a ∈ argRefs, ∀ w : Fin cfg1.W, Pipeline.arrRef spec1 w = a → (cfg1.win w).isOut = false := ListAll.forall_mem_of_all_decide (by decide +kernel)
theorem args3 : ∀ a ∈ argRefs, ∀ w : Fin cfg2.W, Pipeline.arrRef spec2 w = a → (cfg2.win w).isOut = false := ListAll.forall_mem_of_all_decide (by decide +kernel)

/-- A buffer the host operations do not write is as launched. -/
theorem W1_of (c : Dev nD) (r : Ref sig .tc) (h : r ∉ hostOps0_W) : W1 m c (Proc.devRef .tc r) = m ((c : Thread nD τ).loc r) :=
  StableHlo.after_of_writes_sub hostOps0 _ hostOps0_writes h
theorem W2_of (c : Dev nD) (r : Ref sig .tc) (h : ∀ w : Fin cfg0.W, Pipeline.arrRef spec0 w = r → (cfg0.win w).isOut = false) :
    W2 m c (Proc.devRef .tc r) = W1 m c (Proc.devRef .tc r) := leave_of 0 launch0 (W1 m) (dat0 (rd (W1 m))) (dat0_A (rd (W1 m))) c r h
theorem W3_of (c : Dev nD) (r : Ref sig .tc) (h : ∀ w : Fin cfg1.W, Pipeline.arrRef spec1 w = r → (cfg1.win w).isOut = false) :
    W3 m c (Proc.devRef .tc r) = W2 m c (Proc.devRef .tc r) := leave_of 1 launch1 (W2 m) (dat1 (rd (W2 m))) (dat1_A (rd (W2 m))) c r h
theorem W4_of (c : Dev nD) (r : Ref sig .tc) (h : ∀ w : Fin cfg2.W, Pipeline.arrRef spec2 w = r → (cfg2.win w).isOut = false) :
    W4 m c (Proc.devRef .tc r) = W3 m c (Proc.devRef .tc r) := leave_of 2 launch2 (W3 m) (dat2 (rd (W3 m))) (dat2_A (rd (W3 m))) c r h

/-- Every argument ends as launched. -/
theorem W4_args (c : Dev nD) (a : Ref sig .tc) (ha : a ∈ argRefs) : W4 m c (Proc.devRef .tc a) = m ((c : Thread nD τ).loc a) :=
  (W4_of m c a (args3 a ha)).trans <| (W3_of m c a (args2 a ha)).trans <| (W2_of m c a (args1 a ha)).trans (W1_of m c a (args0 a ha))

/-! ## The regions as segments -/

/-- Each region's proof data at the contents it is entered with. -/
def pdats : (p : Fin 3) → (c : Dev nD) → Dat τ (Elt F) Unit ℕ (UR sig nD τ) ℕ (pc (F := F) p) c
  | ⟨0, _⟩ => fun c => dat0 (rd (W1 m)) c
  | ⟨1, _⟩ => fun c => dat1 (rd (W2 m)) c
  | ⟨2, _⟩ => fun c => dat2 (rd (W3 m)) c

abbrev vs : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev ride (c : Dev nD) : sProp 𝕄 := iprop((∃ r, prngReg c r) ∗ ∃ W, owes (c : Thread nD τ) (0 : CellTallies nD τ sig Unit) W)
/-- The unscoped buffers at contents `W`, with what rides beside them. -/
abbrev held (W : Dev nD → Valuation τ sig (Elt F)) (c : Dev nD) : sProp 𝕄 :=
  iprop(StableHlo.held (c : Thread nD τ) (Pipeline.ucRefs τ sig) (W c) ∗ ride c)

set_option backward.isDefEq.respectTransparency.types false in
/-- Region `p` as a segment: entered with the unscoped buffers at `W`, left with them at `leave p W`, for any region whose
    invariant takes in and gives back the scoped buffers and the generator register. -/
def region (p : Fin 3) (hl : Pipeline.LaunchFacts (nD := nD) (τ := τ) cfgs p) (W : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0) (hrec : ∀ c, (pdats m p c).recorded 0 = Set.univ)
    (hA : ∀ c w, (pdats m p c).A w = rd W c (Pipeline.arrRef (pc (F := F) p).spec w))
    (hin : ∀ c, (Pipeline.ΦA (pc (F := F) p).spec c : sProp 𝕄) ⊢ (pdats m p c).Φ 0)
    (hout : ∀ c, (pdats m p c).Φ (Fin.last _) ⊢ (Pipeline.ΦA (pc (F := F) p).spec c : sProp 𝕄)) :
    Pipeline.RegionSeg (pcfgs (F := F)) adm (pdats m) () defs₀ vs L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := held W c
  post c := held (leave p W (pdats m p)) c
  X c := iprop(∃ r, prngReg c r)
  Y c := iprop(∃ r, prngReg c r)
  Z c := Pipeline.unscopedRest (Ix := Unit) (Name := ℕ) (U := UR sig nD τ) (Lvl := ℕ) (pc (F := F) p).spec c (rd W c)
  hentry c := by
    rw [Pipeline.ownSems0_none]
    have hsplit := Pipeline.arrays_of_unscopedBufs (p := p) (pcfgs (F := F)) adm (pdats m) hl.win hl.arr_whole c
      ((pdats m p c).share_full (hq c)) (rd W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O
      rw [howed c 0]
      isplitr; · ipureintro; exact fun _ _ => Or.inl (by rw [hrec c]; trivial)
      iexact HO
    isplitl [Hp]; · iexact Hp
    iexact Hrest
  hin c := by
    iintro ⟨Hp, -, Hr⟩
    iapply (hin c)
    unfold Pipeline.ΦA
    isplitl [Hr]; · iexact Hr
    iexact Hp
  hout c := by
    rw [Pipeline.ownSems0_none]
    iintro H
    ihave H' := (hout c) $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (rd W c) (rd (leave p W (pdats m p)) c) ((pdats m p c).arrAt · (pc (F := F) p).N)
      (fun w => (leave_arr p hl W (pdats m p) c w).symm)
      (fun b hb => leave_of_ne p W (pdats m p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%O, -, HO⟩; iexists O
    rw [howed c (Fin.last _)]
    iexact HO

set_option backward.isDefEq.respectTransparency.types false in
/-- The program's items in order. -/
def segs : List (Pipeline.Seg (pcfgs (F := F)) adm (pdats m) () defs₀ vs L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m) ride),
    .region (region m 0 launch0 (W1 m) (obligation0 (rd (W1 m))) (fun _ _ => rfl) (fun _ _ => rfl) (fun _ => rfl) (dat0_A (rd (W1 m))) (fun _ => .rfl) (fun _ => .rfl)),
    .region (region m 1 launch1 (W2 m) (obligation1 (rd (W2 m))) (fun _ _ => rfl) (fun _ _ => rfl) (fun _ => rfl) (dat1_A (rd (W2 m))) (enter1 (rd (W2 m))) (leave1 (rd (W2 m)))),
    .region (region m 2 launch2 (W3 m) (obligation2 (rd (W3 m))) (fun _ _ => rfl) (fun _ _ => rfl) (fun _ => rfl) (dat2_A (rd (W3 m))) (enter2 (rd (W3 m))) (leave2 (rd (W3 m)))) ]

/-- The program is the run of its items. -/
theorem main_run (c : Dev nD) : main (F := F) c = Pipeline.Seg.run (segs m) := (main_chain c).trans (by unfold segs; chain_rfl)

theorem no_unscoped : ∀ sm : SemLoc sig, sm.isScoped .tc = true := by decide

/-- An unscoped buffer is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: from any launch memory with zero counters every fair execution terminates without fault, every final state has
    each unscoped buffer at the contents `W4` names, and every semaphore counter is zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (pdats m) () cellOf_inj emb₁ defs₀ vs L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => held (W0 m) c) (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show held (W4 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h hz => ⟨h, funext fun g => hz g (.inr (no_unscoped g.2))⟩)

/-- What a final state's memory holds at an argument. -/
theorem arg_of (s : (ℓ : Loc nD τ sig) → Buf (Elt F) ℓ) (c : Dev nD) (h : ∀ b ∈ Pipeline.ucRefs τ sig, s (((c : Thread nD τ)).1, b) = W4 m c b)
    (a : Ref sig .tc) (ha : a ∈ argRefs) (hu : ¬ (Proc.devRef .tc a : DevRef τ sig).isScoped) :
    s ((c.tc : Thread nD τ).loc a) = m ((c.tc : Thread nD τ).loc a) := (h _ (mem_uc a hu)).trans (W4_args m c a ha)

/-- The run read at the result and the arguments: the result array ends at `W4`'s contents, the arguments end as launched and
    every semaphore counter at zero. -/
theorem run_result : θ_run defs (onTc (τ := τ) (main (F := F))) ⟨m, fun _ => 0, ρ⟩ (fun r => (∀ c : Dev nD,
      r.2.mem ((c.tc : Thread nD τ).loc main_v145) = W4 m c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    have ha := arg_of m r.2.mem c (h.1 c)
    ⟨h.1 c _ (mem_uc main_v145 (by decide)),
     ha main_arg0 (by decide) (by decide), ha main_arg1 (by decide) (by decide), ha main_arg2 (by decide) (by decide),
     ha main_arg3 (by decide) (by decide), ha main_arg4 (by decide) (by decide), ha main_arg5 (by decide) (by decide),
     ha main_arg6 (by decide) (by decide), ha main_arg7 (by decide) (by decide), ha main_arg8 (by decide) (by decide),
     ha main_arg9 (by decide) (by decide), ha main_arg10 (by decide) (by decide)⟩, h.2⟩) (run m ρ)

end Cert.KernelIdeal.Layers

end
-- ==== Proof.Values.Spline.lean ====
/-
The two ways of evaluating the cubic B-splines on the uniform knots `-5/2, -2, …, 5/2`: by the recursion over the
order, and by one closed form at the distance from a spline's middle. They agree at every extended real.
-/

module

public import Idealize.ShloMosaic.PureOps.Ideal
public import Idealize.ShloMosaic.PureOps.Ideal.Laws

@[expose] public section

noncomputable section

namespace Cert.Spline

open Idealize.ShloMosaic

/-- Knot `i` of the uniform grid. -/
def knot (i : ℕ) : ℝ := ((i : ℝ) - 3) / 2 - 1

/-- The splines of order zero: one on `[knot i, knot (i+1))`, zero elsewhere. -/
def box (x : EReal) (i : ℕ) : EReal :=
  if (knot i : EReal) ≤ x ∧ x < (knot (1 + i) : EReal) then 1 else 0

/-- One step of the recursion, to order `k`, from the splines `b` of the order below. -/
def step (k : ℕ) (x : EReal) (b : ℕ → EReal) (i : ℕ) : EReal :=
  Ideal.div (x - (knot i : EReal)) ((knot (k + i) : EReal) - (knot i : EReal)) * b i
    + Ideal.div ((knot (k + 1 + i) : EReal) - x) ((knot (k + 1 + i) : EReal) - (knot (1 + i) : EReal)) * b (1 + i)

/-- Cubic spline `i` by the recursion. -/
def recursive (x : EReal) (i : ℕ) : EReal := step 3 x (step 2 x (step 1 x (box x))) i

/-- The cubic spline on `[0, 4]` by its closed form. -/
def closed (t : EReal) : EReal :=
  (max (((2 : ℝ) : EReal) - max (t - ((2 : ℝ) : EReal)) (-(t - ((2 : ℝ) : EReal)))) ((0 : ℝ) : EReal)
      * max (((2 : ℝ) : EReal) - max (t - ((2 : ℝ) : EReal)) (-(t - ((2 : ℝ) : EReal)))) ((0 : ℝ) : EReal)
      * max (((2 : ℝ) : EReal) - max (t - ((2 : ℝ) : EReal)) (-(t - ((2 : ℝ) : EReal)))) ((0 : ℝ) : EReal)
    - ((4 : ℝ) : EReal)
      * (max (((1 : ℝ) : EReal) - max (t - ((2 : ℝ) : EReal)) (-(t - ((2 : ℝ) : EReal)))) ((0 : ℝ) : EReal)
        * max (((1 : ℝ) : EReal) - max (t - ((2 : ℝ) : EReal)) (-(t - ((2 : ℝ) : EReal)))) ((0 : ℝ) : EReal)
        * max (((1 : ℝ) : EReal) - max (t - ((2 : ℝ) : EReal)) (-(t - ((2 : ℝ) : EReal)))) ((0 : ℝ) : EReal)))
    * ((6⁻¹ : ℝ) : EReal)

/-- The position of `x` on the grid stretched to unit spacing, the first knot at zero. -/
def place (x : EReal) : EReal := ((2 : ℝ) : EReal) * x + ((5 : ℝ) : EReal)

/-- `place` of a real is real. -/
theorem place_coe (x : ℝ) : place (x : EReal) = ((2 * x + 5 : ℝ) : EReal) := by
  simp only [place, ← EReal.coe_mul, ← EReal.coe_add]

/-- The order-zero splines over the reals, at stretched position `s`. -/
def boxR (s : ℝ) (i : ℕ) : ℝ := if (i : ℝ) ≤ s ∧ s < (i : ℝ) + 1 then 1 else 0

/-- One step of the recursion over the reals, at stretched position `s`. -/
def stepR (k : ℕ) (s : ℝ) (b : ℕ → ℝ) (i : ℕ) : ℝ :=
  (s - i) / k * b i + ((i : ℝ) + k + 1 - s) / k * b (1 + i)

/-- The closed form over the reals. -/
def closedR (t : ℝ) : ℝ :=
  (max (2 - |t - 2|) 0 * max (2 - |t - 2|) 0 * max (2 - |t - 2|) 0
    - 4 * (max (1 - |t - 2|) 0 * max (1 - |t - 2|) 0 * max (1 - |t - 2|) 0)) * 6⁻¹

/-- At a real the order-zero splines are the real ones at the stretched position. -/
theorem box_coe (x : ℝ) (i : ℕ) : box (x : EReal) i = ((boxR (2 * x + 5) i : ℝ) : EReal) := by
  have h : ((knot i : EReal) ≤ (x : EReal) ∧ (x : EReal) < (knot (1 + i) : EReal))
      ↔ ((i : ℝ) ≤ 2 * x + 5 ∧ 2 * x + 5 < (i : ℝ) + 1) := by
    rw [EReal.coe_le_coe_iff, EReal.coe_lt_coe_iff]
    simp only [knot]
    push_cast
    constructor <;> rintro ⟨h1, h2⟩ <;> constructor <;> linarith
  unfold box boxR
  by_cases hc : (i : ℝ) ≤ 2 * x + 5 ∧ 2 * x + 5 < (i : ℝ) + 1
  · rw [if_pos (h.mpr hc), if_pos hc, EReal.coe_one]
  · rw [if_neg (fun q => hc (h.mp q)), if_neg hc, EReal.coe_zero]

/-- The quotient of two reals, the divisor not zero, is the real quotient. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- At a real one step of the recursion is the real step at the stretched position. -/
theorem step_coe (k : ℕ) (hk : k ≠ 0) (x : ℝ) (b : ℕ → EReal) (b' : ℕ → ℝ) (hb : ∀ i, b i = ((b' i : ℝ) : EReal))
    (i : ℕ) : step k (x : EReal) b i = ((stepR k (2 * x + 5) b' i : ℝ) : EReal) := by
  have hk' : (k : ℝ) ≠ 0 := by exact_mod_cast hk
  have h1 : knot (k + i) - knot i ≠ 0 := by
    have : knot (k + i) - knot i = k / 2 := by simp only [knot]; push_cast; ring
    rw [this]; exact div_ne_zero hk' two_ne_zero
  have h2 : knot (k + 1 + i) - knot (1 + i) ≠ 0 := by
    have : knot (k + 1 + i) - knot (1 + i) = k / 2 := by simp only [knot]; push_cast; ring
    rw [this]; exact div_ne_zero hk' two_ne_zero
  unfold step stepR
  rw [hb i, hb (1 + i), ← EReal.coe_sub, ← EReal.coe_sub, ← EReal.coe_sub, ← EReal.coe_sub, div_real _ _ h1,
    div_real _ _ h2, ← EReal.coe_mul, ← EReal.coe_mul, ← EReal.coe_add]
  congr 1
  have e1 : knot (k + i) - knot i = k / 2 := by simp only [knot]; push_cast; ring
  have e2 : knot (k + 1 + i) - knot (1 + i) = k / 2 := by simp only [knot]; push_cast; ring
  rw [e1, e2]
  congr 2
  · simp only [knot]; field_simp; ring
  · simp only [knot]; push_cast; field_simp; ring

/-- Where every spline of an order is zero, so is every spline of the next. -/
theorem step_zero (k : ℕ) (x : EReal) (b : ℕ → EReal) (hb : ∀ i, b i = 0) (i : ℕ) : step k x b i = 0 := by
  unfold step
  rw [hb, hb, mul_zero, mul_zero, add_zero]

/-- Over the reals the recursion and the closed form agree. -/
theorem closedR_eq (s : ℝ) (j : ℕ) :
    closedR (s - j) = stepR 3 s (stepR 2 s (stepR 1 s (boxR s))) j := by
  obtain ⟨t, rfl⟩ : ∃ t, s = t + j := ⟨s - j, by ring⟩
  have hb : ∀ i : ℕ, boxR (t + j) (i + j) = if (i : ℝ) ≤ t ∧ t < (i : ℝ) + 1 then 1 else 0 := by
    intro i
    unfold boxR
    push_cast
    congr 1
    apply propext
    constructor <;> rintro ⟨h1, h2⟩ <;> constructor <;> linarith
  have h0 := hb 0
  have h1 := hb 1
  have h2 := hb 2
  have h3 := hb 3
  unfold closedR
  simp only [stepR, ← add_assoc]
  norm_num only [zero_add] at h0 h1 h2 h3 ⊢
  rw [h0, h1, h2, h3]
  push_cast
  rcases lt_or_ge t 0 with a | a
  · rw [if_neg (by intro q; linarith [q.1]), if_neg (by intro q; linarith [q.1]), if_neg (by intro q; linarith [q.1]),
      if_neg (by intro q; linarith [q.1])]
    rw [abs_of_nonpos (by linarith), max_eq_right (by linarith), max_eq_right (by linarith)]; ring
  rcases lt_or_ge t 1 with b | b
  · rw [if_pos ⟨by linarith, by linarith⟩, if_neg (by intro q; linarith [q.1]), if_neg (by intro q; linarith [q.1]),
      if_neg (by intro q; linarith [q.1])]
    rw [abs_of_nonpos (by linarith), max_eq_left (by linarith), max_eq_right (by linarith)]; ring
  rcases lt_or_ge t 2 with c | c
  · rw [if_neg (by intro q; linarith [q.2]), if_pos ⟨by linarith, by linarith⟩, if_neg (by intro q; linarith [q.1]),
      if_neg (by intro q; linarith [q.1])]
    rw [abs_of_nonpos (by linarith), max_eq_left (by linarith), max_eq_left (by linarith)]; ring
  rcases lt_or_ge t 3 with d | d
  · rw [if_neg (by intro q; linarith [q.2]), if_neg (by intro q; linarith [q.2]), if_pos ⟨by linarith, by linarith⟩,
      if_neg (by intro q; linarith [q.1])]
    rw [abs_of_nonneg (by linarith), max_eq_left (by linarith), max_eq_left (by linarith)]; ring
  rcases lt_or_ge t 4 with e | e
  · rw [if_neg (by intro q; linarith [q.2]), if_neg (by intro q; linarith [q.2]), if_neg (by intro q; linarith [q.2]),
      if_pos ⟨by linarith, by linarith⟩]
    rw [abs_of_nonneg (by linarith), max_eq_left (by linarith), max_eq_right (by linarith)]; ring
  · rw [if_neg (by intro q; linarith [q.2]), if_neg (by intro q; linarith [q.2]), if_neg (by intro q; linarith [q.2]),
      if_neg (by intro q; linarith [q.2])]
    rw [abs_of_nonneg (by linarith), max_eq_right (by linarith), max_eq_right (by linarith)]; ring

/-- At a real the closed form is the real closed form. -/
theorem closed_coe (t : ℝ) : closed (t : EReal) = ((closedR t : ℝ) : EReal) := by
  have ha : max ((t : EReal) - ((2 : ℝ) : EReal)) (-((t : EReal) - ((2 : ℝ) : EReal))) = ((|t - 2| : ℝ) : EReal) := by
    rw [← EReal.coe_sub, ← EReal.coe_neg, ← EReal.coe_strictMono.monotone.map_max]; rfl
  unfold closed closedR
  rw [ha]
  simp only [← EReal.coe_sub, ← EReal.coe_strictMono.monotone.map_max, ← EReal.coe_mul]

/-- At the infinities the closed form is zero. -/
theorem closed_top_bot (t : EReal) (ht : t = ⊤ ∨ t = ⊥) : closed t = 0 := by
  have ha : max (t - ((2 : ℝ) : EReal)) (-(t - ((2 : ℝ) : EReal))) = ⊤ := by
    rcases ht with rfl | rfl
    · rw [EReal.top_sub_coe]; exact max_eq_left le_top
    · rw [EReal.bot_sub, EReal.neg_bot]; exact max_eq_right le_top
  unfold closed
  rw [ha]
  simp only [sub_eq_add_neg, EReal.neg_top, EReal.add_bot, max_eq_right bot_le]
  simp only [← EReal.coe_mul, ← EReal.coe_neg, ← EReal.coe_add]
  norm_num

/-- The closed form at `x`'s place past knot `j` is cubic spline `j` of the recursion, at every extended real. -/
theorem closed_eq_recursive (x : EReal) (j : ℕ) : closed (place x - ((j : ℝ) : EReal)) = recursive x j := by
  induction x using EReal.rec with
  | bot =>
    have h : place ⊥ - ((j : ℝ) : EReal) = ⊥ := by
      unfold place
      rw [EReal.coe_mul_bot_of_pos (by norm_num), EReal.bot_add, EReal.bot_sub]
    rw [h, closed_top_bot _ (.inr rfl)]
    refine (step_zero _ _ _ (fun _ => step_zero _ _ _ (fun _ => step_zero _ _ _ (fun i => ?_) _) _) _).symm
    exact if_neg fun q => absurd q.1 (not_le.mpr (EReal.bot_lt_coe _))
  | top =>
    have h : place ⊤ - ((j : ℝ) : EReal) = ⊤ := by
      unfold place
      rw [EReal.coe_mul_top_of_pos (by norm_num), EReal.top_add_coe, EReal.top_sub_coe]
    rw [h, closed_top_bot _ (.inl rfl)]
    refine (step_zero _ _ _ (fun _ => step_zero _ _ _ (fun _ => step_zero _ _ _ (fun i => ?_) _) _) _).symm
    exact if_neg fun q => absurd q.2 (not_lt.mpr le_top)
  | coe x =>
    rw [place_coe, ← EReal.coe_sub, closed_coe, closedR_eq]
    exact (step_coe 3 (by norm_num) x _ _ (fun _ => step_coe 2 (by norm_num) x _ _
      (fun _ => step_coe 1 (by norm_num) x _ _ (box_coe x) _) _) j).symm

end Cert.Spline
-- ==== Proof.Values.Layer.lean ====
/-
  One layer's value at one row and one output column, as a function of the row's aggregated features and the column's
  weights: the silu part plus the spline part. Both programs' layers are read in this form.
-/
module

public import proofs.«01_k».proof.Proof.Values.Spline
public import Idealize.ShloMosaic.Lib.ValueIdx

@[expose] public section

noncomputable section

namespace Cert.Layer

open Idealize.ShloMosaic

/-- `x · σ(x)`. -/
def silu (x : EReal) : EReal := x * Ideal.logistic x

/-- The row of aggregated features `a` against base weights `bw` and spline weights `sw`: the silu of every feature
    times its base weight, plus every feature's seven cubic splines times their weights. -/
def kan {n : ℕ} (a : Fin n → EReal) (bw : Fin n → EReal) (sw : Fin n → Fin 7 → EReal) : EReal :=
  (∑ f, silu (a f) * bw f) + ∑ f, ∑ j : Fin 7, Spline.recursive (a f) j.val * sw f j

/-- The eight numbers made of one aggregated feature: its silu, then its seven cubic splines by the closed form. -/
def feature (x : EReal) (c : Fin 8) : EReal :=
  Fin.cases (silu x) (fun j : Fin 7 => Spline.closed (Spline.place x - (((j.val : ℕ) : ℝ) : EReal))) c

/-- The eight weights of one aggregated feature: its base weight, then its seven spline weights. -/
def weight (b : EReal) (s : Fin 7 → EReal) (c : Fin 8) : EReal := Fin.cases b s c

/-- A sum over an index split in `m` runs of `n` is the sum of the runs' sums. -/
theorem sum_runs {M : Type*} [AddCommMonoid M] (m n : ℕ) (g : Fin (m * n) → M) :
    ∑ k, g k = ∑ c : Fin m, ∑ f : Fin n, g ⟨f.val + n * c.val, by
      have hc := c.isLt; have hf := f.isLt
      calc f.val + n * c.val < n + n * c.val := by omega
        _ = n * (c.val + 1) := by ring
        _ ≤ n * m := Nat.mul_le_mul_left _ hc
        _ = m * n := Nat.mul_comm _ _⟩ := by
  rw [← Equiv.sum_comp finProdFinEquiv g, Fintype.sum_prod_type]
  rfl

/-- The eight numbers of every feature against their weights, chunk by chunk, add up to the layer's value. -/
theorem sum_feature {n : ℕ} (a : Fin n → EReal) (bw : Fin n → EReal) (sw : Fin n → Fin 7 → EReal) :
    ∑ c : Fin 8, ∑ f, feature (a f) c * weight (bw f) (sw f) c = kan a bw sw := by
  rw [Fin.sum_univ_succ]
  unfold kan
  congr 1
  rw [Finset.sum_comm]
  refine Finset.sum_congr rfl fun f _ => Finset.sum_congr rfl fun j _ => ?_
  show Spline.closed (Spline.place (a f) - (((j.val : ℕ) : ℝ) : EReal)) * sw f j = _
  rw [Spline.closed_eq_recursive]

/-- The layer's value over three runs of features is the sum of the three runs' values. -/
theorem kan_three {n : ℕ} (a : Fin (3 * n) → EReal) (bw : Fin (3 * n) → EReal) (sw : Fin (3 * n) → Fin 7 → EReal)
    (at' : Fin 3 → Fin n → Fin (3 * n)) (hat : ∀ c f, (at' c f).val = f.val + n * c.val) :
    kan a bw sw = kan (fun f => a (at' 0 f)) (fun f => bw (at' 0 f)) (fun f => sw (at' 0 f))
      + kan (fun f => a (at' 1 f)) (fun f => bw (at' 1 f)) (fun f => sw (at' 1 f))
      + kan (fun f => a (at' 2 f)) (fun f => bw (at' 2 f)) (fun f => sw (at' 2 f)) := by
  have e : ∀ (g : Fin (3 * n) → EReal), ∑ k, g k
      = (∑ f, g (at' 0 f)) + (∑ f, g (at' 1 f)) + ∑ f, g (at' 2 f) := by
    intro g
    rw [sum_runs 3 n g, Fin.sum_univ_three]
    congr 1
    · congr 1 <;> refine Finset.sum_congr rfl fun f _ => congrArg g (Fin.ext ?_) <;> exact (hat _ f).symm
    · refine Finset.sum_congr rfl fun f _ => congrArg g (Fin.ext ?_); exact (hat _ f).symm
  unfold kan
  rw [e, e, add_add_add_comm, add_add_add_comm (∑ f, silu (a (at' 0 f)) * bw (at' 0 f))]

end Cert.Layer
-- ==== Proof.Values.Features.lean ====
/-
  The eight numbers per aggregated feature as the layer kernels lay them out, and a block's product with packed weights:
  it is the layer's value at the block's row.
-/
module

public import proofs.«01_k».proof.Proof.KernelIdeal.Region2
public import proofs.«01_k».proof.Proof.Values.Layer
public import Idealize.ShloMosaic.Lib.MatmulPlain
public import Idealize.ShloMosaic.Lib.Pipeline.Value

@[expose] public section

set_option maxRecDepth 16384

noncomputable section

namespace Cert.KernelIdeal.Layers

open Idealize.ShloMosaic Cert.KernelIdeal Cert.KernelIdeal.Gen
open Idealize.ShloMosaic.ValueIdx (ix2 ix3)

/-- The literal `0`. -/
theorem word0 : Ideal.ofBits .f32 0x00000000#32 = ((0 : ℝ) : EReal) := by
  simp [Ideal.ofBits, Ideal.ieee, -EReal.coe_mul]
/-- The literal `1`. -/
theorem word1 : Ideal.ofBits .f32 0x3F800000#32 = ((1 : ℝ) : EReal) := by
  simp [Ideal.ofBits, Ideal.ieee, -EReal.coe_mul]; norm_num
/-- The literal `2`. -/
theorem word2 : Ideal.ofBits .f32 0x40000000#32 = ((2 : ℝ) : EReal) := by
  simp [Ideal.ofBits, Ideal.ieee, -EReal.coe_mul]; norm_num
/-- The literal `3`. -/
theorem word3 : Ideal.ofBits .f32 0x40400000#32 = ((3 : ℝ) : EReal) := by
  simp [Ideal.ofBits, Ideal.ieee, -EReal.coe_mul]; norm_num
/-- The literal `4`. -/
theorem word4 : Ideal.ofBits .f32 0x40800000#32 = ((4 : ℝ) : EReal) := by
  simp [Ideal.ofBits, Ideal.ieee, -EReal.coe_mul]; norm_num
/-- The literal `5`. -/
theorem word5 : Ideal.ofBits .f32 0x40A00000#32 = ((5 : ℝ) : EReal) := by
  simp [Ideal.ofBits, Ideal.ieee, -EReal.coe_mul]; norm_num
/-- The literal `6`. -/
theorem word6 : Ideal.ofBits .f32 0x40C00000#32 = ((6 : ℝ) : EReal) := by
  simp [Ideal.ofBits, Ideal.ieee, -EReal.coe_mul]; norm_num
/-- The named constant is one sixth. -/
theorem sixth : (Named.named κ "sixth" 0x3E2AAAAB#32 : Ideal .f32) = ((6⁻¹ : ℝ) : EReal) :=
  IdealRules.named_const.ideal_named_scalar (κ := κ) (name := "sixth") (φ := .f32) 0x3E2AAAAB#32 _ rfl

/-- The distance from a spline's middle, `|(u - j) - 2|`, the constants as words. -/
def gap (u : EReal) (j : BitVec 32) : EReal :=
  max (u - Ideal.ofBits .f32 j - Ideal.ofBits .f32 0x40000000#32) (-(u - Ideal.ofBits .f32 j - Ideal.ofBits .f32 0x40000000#32))

/-- The distance short of `c`, cut off at zero, the constants as words. -/
def short (c : BitVec 32) (u : EReal) (j : BitVec 32) : EReal :=
  max (Ideal.ofBits .f32 c - gap u j) (Ideal.ofBits .f32 0x00000000#32)

/-- The closed form at `u - j`, the constants as words. -/
def closedW (u : EReal) (j : BitVec 32) : EReal :=
  (short 0x40000000#32 u j * short 0x40000000#32 u j * short 0x40000000#32 u j
    - Ideal.ofBits .f32 0x40800000#32 * (short 0x3F800000#32 u j * short 0x3F800000#32 u j * short 0x3F800000#32 u j))
    * (Named.named κ "sixth" 0x3E2AAAAB#32 : Ideal .f32)

/-- The stretched position, the constants as words. -/
def placeW (x : EReal) : EReal := Ideal.ofBits .f32 0x40000000#32 * x + Ideal.ofBits .f32 0x40A00000#32

/-- Spline `n` at `x`: the closed form in words is the closed form. -/
theorem closedW_eq (x : EReal) (j : BitVec 32) (n : ℕ) (hj : Ideal.ofBits .f32 j = ((n : ℝ) : EReal)) :
    closedW (placeW x) j = Spline.closed (Spline.place x - ((n : ℝ) : EReal)) := by
  unfold closedW short gap placeW
  rw [hj, sixth, word0, word1, word2, word4, word5]
  rfl

/-- The kernels' block of features: side by side, the silu of the block and its seven splines. -/
def feats (M : ℕ) (a : FVec Ideal ⟨2, ![M, 128]⟩ .f32)
    (h : Shape.Concatenates [⟨2, ![M, 128]⟩, ⟨2, ![M, 128]⟩, ⟨2, ![M, 128]⟩, ⟨2, ![M, 128]⟩, ⟨2, ![M, 128]⟩, ⟨2, ![M, 128]⟩,
      ⟨2, ![M, 128]⟩, ⟨2, ![M, 128]⟩] ⟨2, ![M, 1024]⟩ 1) : FVec Ideal ⟨2, ![M, 1024]⟩ .f32 :=
  concatenate ⟨2, ![M, 1024]⟩ 1 [⟨⟨2, ![M, 128]⟩, fun i => Layer.silu (a i)⟩,
    ⟨⟨2, ![M, 128]⟩, fun i => closedW (placeW (a i)) 0x00000000#32⟩, ⟨⟨2, ![M, 128]⟩, fun i => closedW (placeW (a i)) 0x3F800000#32⟩,
    ⟨⟨2, ![M, 128]⟩, fun i => closedW (placeW (a i)) 0x40000000#32⟩, ⟨⟨2, ![M, 128]⟩, fun i => closedW (placeW (a i)) 0x40400000#32⟩,
    ⟨⟨2, ![M, 128]⟩, fun i => closedW (placeW (a i)) 0x40800000#32⟩, ⟨⟨2, ![M, 128]⟩, fun i => closedW (placeW (a i)) 0x40A00000#32⟩,
    ⟨⟨2, ![M, 128]⟩, fun i => closedW (placeW (a i)) 0x40C00000#32⟩] h

/-- Column `f` of chunk `c` of the features is number `c` of feature `f`. -/
theorem feats_apply (M : ℕ) (a : FVec Ideal ⟨2, ![M, 128]⟩ .f32) (h) (r : Fin M) (c : Fin 8) (f : Fin 128)
    (q : Fin 1024) (hq : q.val = f.val + 128 * c.val) :
    feats M a h (ix2 r q) = Layer.feature (a (ix2 r f)) c := by
  have e : ([⟨⟨2, ![M, 128]⟩, fun i => Layer.silu (a i)⟩,
    ⟨⟨2, ![M, 128]⟩, fun i => closedW (placeW (a i)) 0x00000000#32⟩, ⟨⟨2, ![M, 128]⟩, fun i => closedW (placeW (a i)) 0x3F800000#32⟩,
    ⟨⟨2, ![M, 128]⟩, fun i => closedW (placeW (a i)) 0x40000000#32⟩, ⟨⟨2, ![M, 128]⟩, fun i => closedW (placeW (a i)) 0x40400000#32⟩,
    ⟨⟨2, ![M, 128]⟩, fun i => closedW (placeW (a i)) 0x40800000#32⟩, ⟨⟨2, ![M, 128]⟩, fun i => closedW (placeW (a i)) 0x40A00000#32⟩,
    ⟨⟨2, ![M, 128]⟩, fun i => closedW (placeW (a i)) 0x40C00000#32⟩] : List ((s : Shape) × (s.Idx → EReal)))
      = List.ofFn fun n : Fin 8 => (⟨⟨2, ![M, 128]⟩, fun i => Layer.feature (a i) n⟩ : (s : Shape) × (s.Idx → EReal)) := by
    have s0 : ∀ x : EReal, closedW (placeW x) 0x00000000#32 = Layer.feature x 1 := fun x => closedW_eq x _ 0 (by rw [word0]; norm_num)
    have s1 : ∀ x : EReal, closedW (placeW x) 0x3F800000#32 = Layer.feature x 2 := fun x => closedW_eq x _ 1 (by rw [word1]; norm_num)
    have s2 : ∀ x : EReal, closedW (placeW x) 0x40000000#32 = Layer.feature x 3 := fun x => closedW_eq x _ 2 (by rw [word2]; norm_num)
    have s3 : ∀ x : EReal, closedW (placeW x) 0x40400000#32 = Layer.feature x 4 := fun x => closedW_eq x _ 3 (by rw [word3]; norm_num)
    have s4 : ∀ x : EReal, closedW (placeW x) 0x40800000#32 = Layer.feature x 5 := fun x => closedW_eq x _ 4 (by rw [word4]; norm_num)
    have s5 : ∀ x : EReal, closedW (placeW x) 0x40A00000#32 = Layer.feature x 6 := fun x => closedW_eq x _ 5 (by rw [word5]; norm_num)
    have s6 : ∀ x : EReal, closedW (placeW x) 0x40C00000#32 = Layer.feature x 7 := fun x => closedW_eq x _ 6 (by rw [word6]; norm_num)
    simp only [s0, s1, s2, s3, s4, s5, s6]
    rfl
  unfold feats
  rw [StableHlo.concatenate_congr _ _ e h (e ▸ h)]
  refine concatenate_ofFn_apply (t := ⟨2, ![M, 1024]⟩) (s₁ := ⟨2, ![M, 128]⟩) 1 (fun n : Fin 8 => fun i => Layer.feature (a i) n)
    _ rfl 128 rfl (ix2 r q) c ?_ (ix2 r f) ?_ ?_
  · show q.val / 128 = c.val
    have := f.isLt; omega
  · show f.val = q.val % 128
    have := f.isLt; omega
  · intro b hb
    match b with
    | ⟨0, _⟩ => rfl
    | ⟨1, _⟩ => exact absurd rfl hb

/-- A block of features times packed weights, at row `r` and column `o`: the layer's value over the row, on top of the
    accumulator. -/
theorem dot_feats {M O : ℕ} (a : FVec Ideal ⟨2, ![M, 128]⟩ .f32) (h) (w : FVec Ideal ⟨2, ![1024, O]⟩ .f32)
    (acc : FVec Ideal ⟨2, ![M, O]⟩ .f32) (r : Fin M) (o : Fin O) (bw : Fin 128 → EReal) (sw : Fin 128 → Fin 7 → EReal)
    (hw : ∀ (c : Fin 8) (f : Fin 128) (q : Fin 1024), q.val = f.val + 128 * c.val → w (ix2 q o) = Layer.weight (bw f) (sw f) c) :
    FloatOps.matmul (DotDims.plain M 1024 O) none (feats M a h) w acc (ix2 r o)
      = acc (ix2 r o) + Layer.kan (fun f => a (ix2 r f)) bw sw := by
  rw [Ideal.matmul_plain_apply, ← Layer.sum_feature]
  refine congrArg (acc (ix2 r o) + ·) ((Layer.sum_runs 8 128 _).trans
    (Finset.sum_congr rfl fun c _ => Finset.sum_congr rfl fun f _ => ?_))
  rw [feats_apply M a h r c f _ rfl, hw c f _ rfl]

end Cert.KernelIdeal.Layers
-- ==== Proof.Values.Blocks.lean ====
/-
  What one grid point of each layer kernel writes, at a row and a column of its block: the aggregated features are the
  adjacency rows against the features, an output is the layer's value over the aggregated row, cut off below at zero.
-/
module

public import proofs.«01_k».proof.Proof.Values.Features

@[expose] public section

set_option maxRecDepth 16384

noncomputable section

namespace Cert.KernelIdeal.Layers

open Idealize.ShloMosaic Cert.KernelIdeal Cert.KernelIdeal.Gen
open Idealize.ShloMosaic.ValueIdx (ix2 ix3)

/-- Packed weights: row `f` of chunk `c` holds weight `c` of feature `f`, for output column `o`. -/
def Packed {O : ℕ} (w : FVec Ideal ⟨2, ![1024, O]⟩ .f32) (o : Fin O) (bw : Fin 128 → EReal) (sw : Fin 128 → Fin 7 → EReal) : Prop :=
  ∀ (c : Fin 8) (f : Fin 128) (q : Fin 1024), q.val = f.val + 128 * c.val → w (ix2 q o) = Layer.weight (bw f) (sw f) c

/-- The first kernel's aggregated features. -/
theorem pre0_apply (x0 : Vec Ideal S400x10000 .f32) (x1 : Vec Ideal S10000x128 .f32) (r : Fin 400) (f : Fin 128) :
    pre0 (F := Ideal) x0 x1 (ix2 r f) = ∑ n : Fin 10000, x0 (ix2 r n) * x1 (ix2 n f) := by
  show FloatOps.matmul (F := Ideal) (DotDims.plain 400 10000 128) none x0 x1 (constant S400x128 .f32 0x00000000#32) (ix2 r f) = _
  rw [Ideal.matmul_plain_apply]
  show Ideal.ofBits .f32 0x00000000#32 + _ = _
  rw [word0, EReal.coe_zero, zero_add]

/-- The first kernel's output. -/
theorem hid0_apply (x0 : Vec Ideal S400x10000 .f32) (x1 : Vec Ideal S10000x128 .f32) (x2 : Vec Ideal S1024x128 .f32)
    (r : Fin 400) (o : Fin 128) (bw sw) (hw : Packed x2 o bw sw) :
    hid0 (F := Ideal) x0 x1 x2 (ix2 r o) = max (Layer.kan (fun f => pre0 (F := Ideal) x0 x1 (ix2 r f)) bw sw) 0 := by
  have e : hid0 (F := Ideal) x0 x1 x2 (ix2 r o)
      = max (FloatOps.matmul (F := Ideal) (DotDims.plain 400 1024 128) none
          (feats 400 (pre0 (F := Ideal) x0 x1) concatenates_S400x128_S400x128_S400x128_S400x128_S400x128_S400x128_S400x128_S400x128_S400x1024_d1)
          (shapeCast S1024x128 x2 shapeCasts_S1024x128_S1024x128) (constant S400x128 .f32 0x00000000#32) (ix2 r o))
        (Ideal.ofBits .f32 0x00000000#32) := rfl
  rw [e, shapeCast_self, dot_feats _ _ _ _ _ _ bw sw hw]
  show max (Ideal.ofBits .f32 0x00000000#32 + _) _ = _
  rw [word0, EReal.coe_zero, zero_add]

/-- A slot's contents as a block of rows. -/
theorem flat_apply (x : Vec Ideal S1x1000x128 .f32) (r : Fin 1000) (f : Fin 128) :
    (shapeCast S1000x128 x shapeCasts_S1x1000x128_S1000x128 : S1000x128.Idx → EReal) (ix2 r f) = x (ix3 0 r f) := by
  refine shapeCast_apply x _ _ _ ?_
  rw [Shape.rowMajor_val_three, Shape.rowMajor_val_two]
  show (0 * 1000 + r.val) * 128 + f.val = r.val * 128 + f.val
  omega

/-- The later kernels' aggregated features, as kept in the scratch buffer. -/
theorem agg1_apply (x0 : Vec Ideal S1000x10000 .bf16) (x1 : Vec Ideal S10000x128 .bf16) (r : Fin 1000) (f : Fin 128) :
    k1_pay1 (F := Ideal) x0 x1 (ix3 0 r f) = ∑ n : Fin 10000, (x0 (ix2 r n) * x1 (ix2 n f) : EReal) := by
  have e : k1_pay1 (F := Ideal) x0 x1 = shapeCast S1x1000x128 (FloatOps.matmul (F := Ideal) (φ₁ := .bf16) (φ₂ := .bf16) (DotDims.plain 1000 10000 128) none
      (shapeCast S1000x10000 x0 shapeCasts_S1000x10000_S1000x10000) (shapeCast S10000x128 x1 shapeCasts_S10000x128_S10000x128)
      (constant S1000x128 .f32 0x00000000#32)) shapeCasts_S1000x128_S1x1000x128 := rfl
  rw [e, shapeCast_self, shapeCast_self]
  refine (shapeCast_apply _ _ _ (ix2 r f) ?_).trans ?_
  · rw [Shape.rowMajor_val_three, Shape.rowMajor_val_two]
    show r.val * 128 + f.val = (0 * 1000 + r.val) * 128 + f.val
    omega
  · rw [Ideal.matmul_plain_apply]
    show Ideal.ofBits .f32 0x00000000#32 + _ = _
    rw [word0, EReal.coe_zero, zero_add]

/-- The third kernel's aggregation is the second's. -/
theorem agg2_eq (x0 : Vec Ideal S1000x10000 .bf16) (x1 : Vec Ideal S10000x128 .bf16) :
    k2_pay1 (F := Ideal) x0 x1 = k1_pay1 (F := Ideal) x0 x1 := rfl

/-- The second kernel's output. -/
theorem hid1_apply (x : Vec Ideal S1x1000x128 .f32) (x2 : Vec Ideal S1024x128 .f32) (r : Fin 1000) (o : Fin 128) (bw sw)
    (hw : Packed x2 o bw sw) :
    hid1 (F := Ideal) x x2 (ix2 r o) = max (Layer.kan (fun f => x (ix3 0 r f)) bw sw) 0 := by
  have e : hid1 (F := Ideal) x x2 (ix2 r o)
      = max (FloatOps.matmul (F := Ideal) (DotDims.plain 1000 1024 128) none
          (feats 1000 (shapeCast S1000x128 x shapeCasts_S1x1000x128_S1000x128)
            concatenates_S1000x128_S1000x128_S1000x128_S1000x128_S1000x128_S1000x128_S1000x128_S1000x128_S1000x1024_d1)
          (shapeCast S1024x128 x2 shapeCasts_S1024x128_S1024x128) (constant S1000x128 .f32 0x00000000#32) (ix2 r o))
        (Ideal.ofBits .f32 0x00000000#32) := rfl
  rw [e, shapeCast_self, dot_feats _ _ _ _ _ _ bw sw hw]
  show max (Ideal.ofBits .f32 0x00000000#32 + _) _ = _
  rw [word0, EReal.coe_zero, zero_add]
  simp only [flat_apply]

/-- A weight slice as a matrix. -/
theorem slice_apply (w : Vec Ideal S1x1024x64 .f32) (q : Fin 1024) (o : Fin 64) :
    (shapeCast S1024x64 w shapeCasts_S1x1024x64_S1024x64 : S1024x64.Idx → EReal) (ix2 q o) = w (ix3 0 q o) := by
  refine shapeCast_apply w _ _ _ ?_
  rw [Shape.rowMajor_val_three, Shape.rowMajor_val_two]
  show (0 * 1024 + q.val) * 64 + o.val = q.val * 64 + o.val
  omega

/-- A block of features times a weight slice, on top of zero. -/
def share (a : FVec Ideal S1000x128 .f32) (w : Vec Ideal S1x1024x64 .f32) : FVec Ideal S1000x64 .f32 :=
  FloatOps.matmul (F := Ideal) (φ₁ := .f32) (φ₂ := .f32) (DotDims.plain 1000 1024 64) none
    (feats 1000 a concatenates_S1000x128_S1000x128_S1000x128_S1000x128_S1000x128_S1000x128_S1000x128_S1000x128_S1000x1024_d1)
    (shapeCast S1024x64 w shapeCasts_S1x1024x64_S1024x64) (constant S1000x64 .f32 0x00000000#32)

/-- A share is the layer's value over its row. -/
theorem share_apply (a : FVec Ideal S1000x128 .f32) (w : Vec Ideal S1x1024x64 .f32) (r : Fin 1000) (o : Fin 64) (bw sw)
    (hw : Packed (shapeCast S1024x64 w shapeCasts_S1x1024x64_S1024x64) o bw sw) :
    share a w (ix2 r o) = Layer.kan (fun f => a (ix2 r f)) bw sw := by
  unfold share
  rw [dot_feats _ _ _ _ _ _ bw sw hw]
  show Ideal.ofBits .f32 0x00000000#32 + _ = _
  rw [word0, EReal.coe_zero, zero_add]

/-- The first share of the output is the share of the first aggregated block. -/
theorem outA_apply (p : Vec Ideal S1000x128 .f32) (w : Vec Ideal S1x1024x64 .f32) (i : S1000x64.Idx) :
    outA (F := Ideal) p w i = share p w i := by
  have e : outA (F := Ideal) p w = share (shapeCast S1000x128 p shapeCasts_S1000x128_S1000x128) w := rfl
  rw [e, shapeCast_self]

/-- The second share is added to what is there. -/
theorem outB_apply (acc : FVec Ideal S1000x64 .f32) (p : Vec Ideal S1000x128 .f32) (w : Vec Ideal S1x1024x64 .f32) (i : S1000x64.Idx) :
    outB (F := Ideal) acc p w i = acc i + share p w i := by
  have e : outB (F := Ideal) acc p w i = acc i + share (shapeCast S1000x128 p shapeCasts_S1000x128_S1000x128) w i := rfl
  rw [e, shapeCast_self]

/-- The third share is added, and the sum cut off below at zero. -/
theorem outC_apply (acc : FVec Ideal S1000x64 .f32) (x : Vec Ideal S1x1000x128 .f32) (w : Vec Ideal S1x1024x64 .f32) (i : S1000x64.Idx) :
    outC (F := Ideal) acc x w i
      = max (acc i + share (shapeCast S1000x128 x shapeCasts_S1x1000x128_S1000x128) w i) (Ideal.ofBits .f32 0x00000000#32) := rfl

end Cert.KernelIdeal.Layers
-- ==== Proof.Values.Pack.lean ====
/-
  How a layer's weights are packed into one matrix: the transposed base weights on top, then for each of the seven splines the
  transposed matrix of that spline's weights, each scaled by its feature's scaler.
-/
module

public import proofs.«01_k».proof.Proof.Values.Blocks
public import Idealize.ShloMosaic.Lib.Pipeline.Value

@[expose] public section

set_option maxRecDepth 16384

noncomputable section

namespace Cert.KernelIdeal.Layers

open Idealize.ShloMosaic Cert.KernelIdeal
open Idealize.ShloMosaic.ValueIdx (ix2 ix3)

/-- A transposed matrix. -/
theorem turned {O : ℕ} (b : FVec Ideal ⟨2, ![O, 128]⟩ .f32) (ht) (f : Fin 128) (o : Fin O) :
    transpose ⟨2, ![128, O]⟩ [1, 0] b ht (ix2 f o) = b (ix2 o f) :=
  transpose_apply _ _ _ _ _ fun a => match a with | ⟨0, _⟩ => rfl | ⟨1, _⟩ => rfl

/-- The transposed, scaled weights of one spline. -/
theorem scaled {O : ℕ} (s : FVec Ideal ⟨3, ![O, 128, 7]⟩ .f32) (t : FVec Ideal ⟨2, ![O, 128]⟩ .f32) (j : Fin 7) (off : Fin 3 → ℕ)
    (h0 : off 0 = 0) (h1 : off 1 = 0) (h2 : off 2 = j.val) (ht) (hr) (hs) (hb) (hc) (f : Fin 128) (o : Fin O) :
    transpose ⟨2, ![128, O]⟩ [1, 0] (shapeCast ⟨2, ![O, 128]⟩ (extractStridedSlice ⟨3, ![O, 128, 1]⟩ off
        (mulf s (broadcastInDim ⟨3, ![O, 128, 7]⟩ ![0, 1, 2] hb (broadcastInDim ⟨3, ![O, 128, 1]⟩ ![0, 1] hc t))) hs) hr) ht (ix2 f o)
      = s (ix3 o f j) * t (ix2 o f) := by
  refine (turned _ ht f o).trans ((shapeCast_apply _ hr _ (ix3 o f (0 : Fin 1)) ?_).trans
    ((extractStridedSlice_apply _ _ hs _ (ix3 o f j) ?_).trans (congrArg (s (ix3 o f j) * ·)
      ((broadcastInDim_apply _ hb _ _ (ix3 o f (0 : Fin 1)) ?_).trans (broadcastInDim_apply _ hc _ _ (ix2 o f) ?_)))))
  · rw [Shape.rowMajor_val_three, Shape.rowMajor_val_two]
    show (o.val * 128 + f.val) * 1 + 0 = o.val * 128 + f.val
    omega
  · intro a
    match a with
    | ⟨0, _⟩ => show o.val = off 0 + o.val; omega
    | ⟨1, _⟩ => show f.val = off 1 + f.val; omega
    | ⟨2, _⟩ => show j.val = off 2 + 0; omega
  · intro a
    have ho : O = 1 → o.val = 0 := fun h => by have := o.isLt; omega
    match a with
    | ⟨0, _⟩ => show o.val = if O = 1 then 0 else o.val; split_ifs with h; exacts [ho h, rfl]
    | ⟨1, _⟩ => rfl
    | ⟨2, _⟩ => rfl
  · intro a
    have ho : O = 1 → o.val = 0 := fun h => by have := o.isLt; omega
    match a with
    | ⟨0, _⟩ => show o.val = if O = 1 then 0 else o.val; split_ifs with h; exacts [ho h, rfl]
    | ⟨1, _⟩ => rfl

/-- A run of columns of a matrix. -/
theorem cut2 (x : FVec Ideal S64x384 .f32) (off : Fin 2 → ℕ) (hs) (o : Fin 64) (f : Fin 128) (g : Fin 384) (h0 : off 0 = 0)
    (h1 : g.val = f.val + off 1) : extractStridedSlice S64x128 off x hs (ix2 o f) = x (ix2 o g) :=
  extractStridedSlice_apply _ _ hs _ _ fun a => match a with
    | ⟨0, _⟩ => by show o.val = off 0 + o.val; omega
    | ⟨1, _⟩ => by show g.val = off 1 + f.val; omega

/-- A run of columns of a matrix of spline weights. -/
theorem cut3 (x : FVec Ideal S64x384x7 .f32) (off : Fin 3 → ℕ) (hs) (o : Fin 64) (f : Fin 128) (j : Fin 7) (g : Fin 384)
    (h0 : off 0 = 0) (h1 : g.val = f.val + off 1) (h2 : off 2 = 0) :
    extractStridedSlice S64x128x7 off x hs (ix3 o f j) = x (ix3 o g j) :=
  extractStridedSlice_apply _ _ hs _ _ fun a => match a with
    | ⟨0, _⟩ => by show o.val = off 0 + o.val; omega
    | ⟨1, _⟩ => by show g.val = off 1 + f.val; omega
    | ⟨2, _⟩ => by show j.val = off 2 + j.val; omega

/-- A matrix under a new unit axis. -/
theorem lifted (x : FVec Ideal S1024x64 .f32) (hb) (q : Fin 1024) (o : Fin 64) :
    broadcastInDim S1x1024x64 ![1, 2] hb x (ix3 0 q o) = x (ix2 q o) :=
  broadcastInDim_apply _ hb _ _ _ fun a => match a with | ⟨0, _⟩ => rfl | ⟨1, _⟩ => rfl

/-- Three matrices stacked under a new axis, at an index of the first, second or third. -/
theorem stacked (p0 p1 p2 : FVec Ideal S1x1024x64 .f32) (h) (d : Fin 3) (q : Fin 1024) (o : Fin 64) :
    concatenate S3x1024x64 0 [⟨S1x1024x64, p0⟩, ⟨S1x1024x64, p1⟩, ⟨S1x1024x64, p2⟩] h (ix3 d q o)
      = (![p0, p1, p2] : Fin 3 → FVec Ideal S1x1024x64 .f32) d (ix3 0 q o) := by
  have e : ([⟨S1x1024x64, p0⟩, ⟨S1x1024x64, p1⟩, ⟨S1x1024x64, p2⟩] : List ((s : Shape) × (s.Idx → EReal)))
      = List.ofFn fun n : Fin 3 => (⟨S1x1024x64, (![p0, p1, p2] : Fin 3 → FVec Ideal S1x1024x64 .f32) n⟩ : (s : Shape) × (s.Idx → EReal)) := rfl
  rw [StableHlo.concatenate_congr _ _ e h (e ▸ h)]
  refine concatenate_ofFn_apply (t := S3x1024x64) (s₁ := S1x1024x64) 0
    (![p0, p1, p2] : Fin 3 → FVec Ideal S1x1024x64 .f32) _ rfl 1 rfl (ix3 d q o) d ?_ (ix3 0 q o) ?_ ?_
  · show d.val / 1 = d.val
    omega
  · show 0 = d.val % 1
    omega
  · intro b hb
    match b with
    | ⟨0, _⟩ => exact absurd rfl hb
    | ⟨1, _⟩ => rfl
    | ⟨2, _⟩ => rfl

/-- Eight matrices stacked are packed weights when the first holds the base weights and the others the splines'. -/
theorem packed_of {O : ℕ} (p0 p1 p2 p3 p4 p5 p6 p7 : FVec Ideal ⟨2, ![128, O]⟩ .f32) (h) (o : Fin O)
    (bw : Fin 128 → EReal) (sw : Fin 128 → Fin 7 → EReal) (h0 : ∀ f : Fin 128, p0 (ix2 f o) = bw f)
    (h1 : ∀ f : Fin 128, p1 (ix2 f o) = sw f 0) (h2 : ∀ f : Fin 128, p2 (ix2 f o) = sw f 1) (h3 : ∀ f : Fin 128, p3 (ix2 f o) = sw f 2)
    (h4 : ∀ f : Fin 128, p4 (ix2 f o) = sw f 3) (h5 : ∀ f : Fin 128, p5 (ix2 f o) = sw f 4) (h6 : ∀ f : Fin 128, p6 (ix2 f o) = sw f 5)
    (h7 : ∀ f : Fin 128, p7 (ix2 f o) = sw f 6) :
    Packed (concatenate ⟨2, ![1024, O]⟩ 0 [⟨⟨2, ![128, O]⟩, p0⟩, ⟨⟨2, ![128, O]⟩, p1⟩, ⟨⟨2, ![128, O]⟩, p2⟩, ⟨⟨2, ![128, O]⟩, p3⟩,
      ⟨⟨2, ![128, O]⟩, p4⟩, ⟨⟨2, ![128, O]⟩, p5⟩, ⟨⟨2, ![128, O]⟩, p6⟩, ⟨⟨2, ![128, O]⟩, p7⟩] h) o bw sw := by
  intro c f q hq
  have e : ([⟨⟨2, ![128, O]⟩, p0⟩, ⟨⟨2, ![128, O]⟩, p1⟩, ⟨⟨2, ![128, O]⟩, p2⟩, ⟨⟨2, ![128, O]⟩, p3⟩,
      ⟨⟨2, ![128, O]⟩, p4⟩, ⟨⟨2, ![128, O]⟩, p5⟩, ⟨⟨2, ![128, O]⟩, p6⟩, ⟨⟨2, ![128, O]⟩, p7⟩] : List ((s : Shape) × (s.Idx → EReal)))
      = List.ofFn fun n : Fin 8 => (⟨⟨2, ![128, O]⟩, (![p0, p1, p2, p3, p4, p5, p6, p7] : Fin 8 → FVec Ideal ⟨2, ![128, O]⟩ .f32) n⟩ :
          (s : Shape) × (s.Idx → EReal)) := rfl
  rw [StableHlo.concatenate_congr _ _ e h (e ▸ h)]
  refine (concatenate_ofFn_apply (t := ⟨2, ![1024, O]⟩) (s₁ := ⟨2, ![128, O]⟩) 0
    (![p0, p1, p2, p3, p4, p5, p6, p7] : Fin 8 → FVec Ideal ⟨2, ![128, O]⟩ .f32) _ rfl 128 rfl (ix2 q o) c ?_ (ix2 f o) ?_ ?_).trans ?_
  · show q.val / 128 = c.val
    have := f.isLt; omega
  · show f.val = q.val % 128
    have := f.isLt; omega
  · intro b hb
    match b with
    | ⟨0, _⟩ => exact absurd rfl hb
    | ⟨1, _⟩ => rfl
  · fin_cases c
    exacts [h0 f, h1 f, h2 f, h3 f, h4 f, h5 f, h6 f, h7 f]

end Cert.KernelIdeal.Layers

end
-- ==== Proof.Values.Weights.lean ====
/-
  What the host operations leave in the three weight buffers, over the extended reals: the packed weights of the two hidden
  layers, and the packed weights of the output layer, in one slice for each of the three joined feature matrices.
-/
module

public import proofs.«01_k».proof.Proof.KernelIdeal.Run
public import proofs.«01_k».proof.Proof.Values.Pack
public import Idealize.ShloMosaic.Lib.StableHlo.RunRead

@[expose] public section

set_option maxRecDepth 16384

noncomputable section

namespace Cert.KernelIdeal.Layers

open Idealize.ShloMosaic
open Idealize.ShloMosaic.TcCoe Cert.KernelIdeal
open Cert.KernelIdeal.Gen
open Idealize.ShloMosaic.ValueIdx (ix2 ix3)

variable (V : Valuation τ sig (Elt Ideal))

/-- The first layer's packed weights. -/
theorem weights1 (x2 : Vec Ideal S128x128 .f32) (x3 : Vec Ideal S128x128x7 .f32) (x4 : Vec Ideal S128x128 .f32)
    (h2 : V (Proc.devRef .tc main_arg2) = x2) (h3 : V (Proc.devRef .tc main_arg3) = x3) (h4 : V (Proc.devRef .tc main_arg4) = x4)
    (o : Fin 128) : Packed (StableHlo.after hostOps0 V (Proc.devRef .tc main_v25)) o
    (fun f => x2 (ix2 o f))
    (fun f j => x3 (ix3 o f j) * x4 (ix2 o f)) := by
  subst h2 h3 h4
  unfold hostOps0
  after_reads_simp
  dsimp only [Matrix.cons_val]
  refine packed_of _ _ _ _ _ _ _ _ _ o _ _ ?_ ?_ ?_ ?_ ?_ ?_ ?_ ?_ <;> intro f <;> after_reads_simp
  · exact turned _ _ f o
  all_goals refine scaled _ _ _ _ ?_ ?_ ?_ _ _ _ _ _ f o <;> rfl

/-- The second layer's packed weights. -/
theorem weights2 (x5 : Vec Ideal S128x128 .f32) (x6 : Vec Ideal S128x128x7 .f32) (x7 : Vec Ideal S128x128 .f32)
    (h5 : V (Proc.devRef .tc main_arg5) = x5) (h6 : V (Proc.devRef .tc main_arg6) = x6) (h7 : V (Proc.devRef .tc main_arg7) = x7)
    (o : Fin 128) : Packed (StableHlo.after hostOps0 V (Proc.devRef .tc main_v51)) o
    (fun f => x5 (ix2 o f))
    (fun f j => x6 (ix3 o f j) * x7 (ix2 o f)) := by
  subst h5 h6 h7
  unfold hostOps0
  after_reads_simp
  dsimp only [Matrix.cons_val]
  refine packed_of _ _ _ _ _ _ _ _ _ o _ _ ?_ ?_ ?_ ?_ ?_ ?_ ?_ ?_ <;> intro f <;> after_reads_simp
  · exact turned _ _ f o
  all_goals refine scaled _ _ _ _ ?_ ?_ ?_ _ _ _ _ _ f o <;> rfl

/-- The output layer's packed weights: slice `d` holds the weights of the features `f + 128 d`. -/
theorem weights3 (x8 : Vec Ideal S64x384 .f32) (x9 : Vec Ideal S64x384x7 .f32) (x10 : Vec Ideal S64x384 .f32)
    (h8 : V (Proc.devRef .tc main_arg8) = x8) (h9 : V (Proc.devRef .tc main_arg9) = x9) (h10 : V (Proc.devRef .tc main_arg10) = x10)
    (at' : Fin 3 → Fin 128 → Fin 384) (hat : ∀ d f, (at' d f).val = f.val + 128 * d.val) (o : Fin 64) (d : Fin 3)
    (k : Fin 8) (f : Fin 128) (q : Fin 1024) (hq : q.val = f.val + 128 * k.val) :
    StableHlo.after hostOps0 V (Proc.devRef .tc main_v142) (ix3 d q o)
      = Layer.weight (x8 (ix2 o (at' d f)))
          (fun j => x9 (ix3 o (at' d f) j) * x10 (ix2 o (at' d f))) k := by
  unfold hostOps0
  after_reads_simp
  dsimp only [Matrix.cons_val]
  refine (stacked _ _ _ _ d q o).trans ?_
  have hg := hat d
  generalize at' d = g at hg ⊢
  fin_cases d
  all_goals
    dsimp only [Matrix.cons_val, Fin.isValue, Fin.zero_eta, Fin.mk_one, Fin.reduceFinMk]
    after_reads_simp
    refine (lifted _ _ q o).trans ?_
    dsimp only [Matrix.cons_val]
    refine packed_of _ _ _ _ _ _ _ _ _ o (fun f => x8 (ix2 o (g f))) (fun f j => x9 (ix3 o (g f) j) * x10 (ix2 o (g f)))
      ?_ ?_ ?_ ?_ ?_ ?_ ?_ ?_ k f q hq <;> intro f <;> (try subst h8 h9 h10) <;> after_reads_simp
    · exact (turned _ _ f o).trans (cut2 _ _ _ o f (g f) rfl (hg f))
    all_goals
      refine (scaled _ _ _ _ ?_ ?_ ?_ _ _ _ _ _ f o).trans (congrArg₂ (fun a b : EReal => a * b)
        (cut3 _ _ _ o f _ (g f) ?_ ?_ ?_) (cut2 _ _ _ o f (g f) ?_ ?_)) <;> first | rfl | exact hg f

end Cert.KernelIdeal.Layers

end
-- ==== Proof.Values.Reference.lean ====
/-
  What the plain-array program computes, read at an index: the first layer's grid, splines and value over the
  aggregated features, the second layer as the first at other operands.
-/
module

public import proofs.«01_k».proof.Proof.Gen.ReferenceIdeal.Read
public import proofs.«01_k».proof.Proof.Values.Layer

@[expose] public section

set_option maxRecDepth 16384

noncomputable section

namespace Cert.ReferenceIdeal.Layers

open Idealize.ShloMosaic Cert.ReferenceIdeal Cert.ReferenceIdeal.Gen Cert.ReferenceIdeal.Read
open Idealize.ShloMosaic.ValueIdx (ix2 ix3)

/-- The literal `-3`. -/
theorem lit_neg_three : Ideal.ofBits .f32 0xC0400000#32 = ((-3 : ℝ) : EReal) := by
  simp [Ideal.ofBits, Ideal.ieee, -EReal.coe_mul]; norm_num
/-- The literal `1/2`. -/
theorem lit_half : Ideal.ofBits .f32 0x3F000000#32 = ((2⁻¹ : ℝ) : EReal) := by
  simp [Ideal.ofBits, Ideal.ieee, -EReal.coe_mul]; norm_num
/-- The literal `1`. -/
theorem lit_one : Ideal.ofBits .f32 0x3F800000#32 = ((1 : ℝ) : EReal) := by
  simp [Ideal.ofBits, Ideal.ieee, -EReal.coe_mul]; norm_num
/-- The literal `0`. -/
theorem lit_zero : Ideal.ofBits .f32 0x00000000#32 = ((0 : ℝ) : EReal) := by
  simp [Ideal.ofBits, Ideal.ieee, -EReal.coe_mul]

/-- The scaled counter `(-3 + i) · ½ - 1` is knot `i`. -/
theorem knot_eq (n : ℕ) (hn : n < 11) :
    (Ideal.ofBits .f32 0xC0400000#32 + (((BitVec.ofNat 32 n).toInt : ℝ) : EReal)) * Ideal.ofBits .f32 0x3F000000#32
      - Ideal.ofBits .f32 0x3F800000#32 = (Spline.knot n : EReal) := by
  have hi : ((BitVec.ofNat 32 n).toInt : ℝ) = (n : ℝ) := by
    have : (BitVec.ofNat 32 n).toInt = (n : ℤ) := by
      rw [BitVec.toInt_eq_toNat_of_lt (by rw [BitVec.toNat_ofNat]; omega), BitVec.toNat_ofNat]
      omega
    rw [this]; norm_cast
  rw [lit_neg_three, lit_half, lit_one, hi, ← EReal.coe_add, ← EReal.coe_mul, ← EReal.coe_sub]
  congr 1
  unfold Spline.knot
  ring

/-- An indicator of two comparisons, as a float, is the spline of order zero. -/
theorem indicator (x a b : EReal) :
    ((((Ideal.cmp .oge x a &&& Ideal.cmp .olt x b).toNat : ℕ) : ℝ) : EReal) = if a ≤ x ∧ x < b then 1 else 0 := by
  unfold Ideal.cmp
  by_cases h1 : a ≤ x <;> by_cases h2 : x < b <;> simp [h1, h2]

/-- The first layer's grid holds knot `i` in column `i`. -/
theorem grid (i : S128x11.Idx) : val_main_v11 (F := Ideal) i = (Spline.knot (i 1).val : EReal) := by
  have hi : (i 1).val < 11 := (i 1).isLt
  have e : (((((0 * 1 + 0) * 1 + 0) * 11 + ((i 0).val * 11 + (i 1).val) % 11) % 11 : ℕ)) = (i 1).val := by omega
  rw [val_main_v11_apply, val_main_v10_apply, val_main_v9_apply, val_main_v8_apply, val_main_v7_apply,
    val_main_v5_apply, val_main_v3_apply, val_main_v2_apply, val_main_v4_apply, val_main_v6_apply, val_main_cst_apply,
    val_main_cst_0_apply, val_main_cst_1_apply]
  refine Eq.trans ?_ (knot_eq _ hi)
  show (Ideal.ofBits .f32 0xC0400000#32 + (((BitVec.ofNat 32 ((((0 * 1 + 0) * 1 + 0) * 11
    + ((i 0).val * 11 + (i 1).val) % 11) % 11)).toInt : ℝ) : EReal)) * Ideal.ofBits .f32 0x3F000000#32
      - Ideal.ofBits .f32 0x3F800000#32 = _
  rw [e]

variable (x0 : (⟨S10000x128, .f32⟩ : BufTy).Contents (Elt Ideal)) (x1 : (⟨S10000x10000, .f32⟩ : BufTy).Contents (Elt Ideal))

/-- The aggregated features, the column axis repeated once per spline, read at any index of that row and feature. -/
theorem column (q : S10000x128.Idx) (p : S10000x128x1.Idx) (h0 : (p 0).val = (q 0).val) (h1 : (p 1).val = (q 1).val) :
    val_main_v15 (F := Ideal) x0 x1 p = val_main_v0 (F := Ideal) x0 x1 q := by
  rw [val_main_v15_apply]
  refine congrArg _ (funext fun a => Fin.ext ?_)
  match a with
  | ⟨0, _⟩ => exact h0
  | ⟨1, _⟩ => exact h1

/-- The first layer's splines of order zero. -/
theorem order0 (q : S10000x128.Idx) (i : S10000x128x10.Idx) (h0 : (i 0).val = (q 0).val) (h1 : (i 1).val = (q 1).val) :
    val_main_v27 (F := Ideal) x0 x1 i = Spline.box (val_main_v0 (F := Ideal) x0 x1 q) (i 2).val := by
  rw [val_main_v27_apply, val_main_v26_apply, val_main_v20_apply, val_main_v25_apply, val_main_v18_apply,
    val_main_v23_apply, val_main_v19_apply, val_main_v24_apply, val_main_v17_apply, val_main_v22_apply,
    val_main_v16_apply, val_main_v21_apply, grid, grid, column x0 x1 q]
  · exact indicator _ _ _
  all_goals first | exact h0 | exact h1

/-- The first layer's splines of order one. -/
theorem order1 (q : S10000x128.Idx) (i : S10000x128x9.Idx) (h0 : (i 0).val = (q 0).val) (h1 : (i 1).val = (q 1).val) :
    val_main_v54 (F := Ideal) x0 x1 i
      = Spline.step 1 (val_main_v0 (F := Ideal) x0 x1 q) (Spline.box (val_main_v0 (F := Ideal) x0 x1 q)) (i 2).val := by
  rw [val_main_v54_apply, val_main_v40_apply, val_main_v53_apply, val_main_v38_apply, val_main_v51_apply,
    val_main_v32_apply, val_main_v45_apply, val_main_v37_apply, val_main_v50_apply, val_main_v36_apply,
    val_main_v49_apply, val_main_v35_apply, val_main_v48_apply, val_main_v30_apply, val_main_v44_apply,
    val_main_v31_apply, val_main_v43_apply, val_main_v29_apply, val_main_v42_apply, val_main_v28_apply,
    val_main_v41_apply, val_main_v33_apply, val_main_v34_apply, val_main_v46_apply, val_main_v47_apply,
    val_main_v39_apply, val_main_v52_apply, order0 x0 x1 q, order0 x0 x1 q, column x0 x1 q]
  · simp only [grid]; rfl
  all_goals first | exact h0 | exact h1

/-- The first layer's splines of order two. -/
theorem order2 (q : S10000x128.Idx) (i : S10000x128x8.Idx) (h0 : (i 0).val = (q 0).val) (h1 : (i 1).val = (q 1).val) :
    val_main_v81 (F := Ideal) x0 x1 i
      = Spline.step 2 (val_main_v0 (F := Ideal) x0 x1 q) (Spline.step 1 (val_main_v0 (F := Ideal) x0 x1 q)
          (Spline.box (val_main_v0 (F := Ideal) x0 x1 q))) (i 2).val := by
  rw [val_main_v81_apply, val_main_v67_apply, val_main_v80_apply, val_main_v65_apply, val_main_v78_apply,
    val_main_v59_apply, val_main_v72_apply, val_main_v64_apply, val_main_v77_apply, val_main_v63_apply,
    val_main_v76_apply, val_main_v62_apply, val_main_v75_apply, val_main_v57_apply, val_main_v71_apply,
    val_main_v58_apply, val_main_v70_apply, val_main_v56_apply, val_main_v69_apply, val_main_v55_apply,
    val_main_v68_apply, val_main_v60_apply, val_main_v61_apply, val_main_v73_apply, val_main_v74_apply,
    val_main_v66_apply, val_main_v79_apply, order1 x0 x1 q, order1 x0 x1 q, column x0 x1 q]
  · simp only [grid]; rfl
  all_goals first | exact h0 | exact h1

/-- The first layer's cubic splines are the recursion's, at the aggregated feature. -/
theorem order3 (q : S10000x128.Idx) (i : S10000x128x7.Idx) (h0 : (i 0).val = (q 0).val) (h1 : (i 1).val = (q 1).val) :
    val_main_v108 (F := Ideal) x0 x1 i = Spline.recursive (val_main_v0 (F := Ideal) x0 x1 q) (i 2).val := by
  rw [val_main_v108_apply, val_main_v94_apply, val_main_v107_apply, val_main_v92_apply, val_main_v105_apply,
    val_main_v86_apply, val_main_v99_apply, val_main_v91_apply, val_main_v104_apply, val_main_v90_apply,
    val_main_v103_apply, val_main_v89_apply, val_main_v102_apply, val_main_v84_apply, val_main_v98_apply,
    val_main_v85_apply, val_main_v97_apply, val_main_v83_apply, val_main_v96_apply, val_main_v82_apply,
    val_main_v95_apply, val_main_v87_apply, val_main_v88_apply, val_main_v100_apply, val_main_v101_apply,
    val_main_v93_apply, val_main_v106_apply, order2 x0 x1 q, order2 x0 x1 q, column x0 x1 q]
  · simp only [grid]; rfl
  all_goals first | exact h0 | exact h1

/-- The first layer's base features are the silu of the aggregated features. -/
theorem base (i : S10000x128.Idx) :
    val_main_v12 (F := Ideal) x0 x1 i = Layer.silu (val_main_v0 (F := Ideal) x0 x1 i) := by
  rw [val_main_v12_apply, val_main_call0_v5_apply, val_main_call0_v4_apply, val_main_call0_v3_apply,
    val_main_call0_v2_apply, val_main_call0_v1_apply, val_main_call0_v0_apply, val_main_call0_cst_apply,
    val_main_call0_cst_0_apply]
  show val_main_v0 (F := Ideal) x0 x1 i * Ideal.div (Ideal.ofBits .f32 0x3F800000#32)
    (Ideal.ofBits .f32 0x3F800000#32 + Ideal.exp (-(val_main_v0 (F := Ideal) x0 x1 i))) = _
  rw [lit_one]
  rfl

/-- One layer of the program: the layer's value over the row's aggregated features, cut off below at zero. -/
theorem layer (x2 : (⟨S128x128, .f32⟩ : BufTy).Contents (Elt Ideal)) (x3 : (⟨S128x128x7, .f32⟩ : BufTy).Contents (Elt Ideal))
    (x4 : (⟨S128x128, .f32⟩ : BufTy).Contents (Elt Ideal)) (r : Fin 10000) (o : Fin 128) :
    val_main_v117 (F := Ideal) x0 x1 x2 x3 x4 (ix2 r o)
      = max (Layer.kan (fun f : Fin 128 => val_main_v0 (F := Ideal) x0 x1 (ix2 r f)) (fun f => x2 (ix2 o f))
          (fun f j => x3 (ix3 o f j) * x4 (ix2 o f))) 0 := by
  have hb : val_main_v14 (F := Ideal) x0 x1 x2 (ix2 r o)
      = ∑ f : Fin 128, Layer.silu (val_main_v0 (F := Ideal) x0 x1 (ix2 r f)) * x2 (ix2 o f) := by
    rw [val_main_v14_apply]
    refine Finset.sum_congr rfl fun f _ => ?_
    rw [base, val_main_v13_apply]
    congr 2
    · refine congrArg _ (funext fun a => ?_)
      match a with
      | ⟨0, _⟩ => rfl
      | ⟨1, _⟩ => rfl
    · funext a
      match a with
      | ⟨0, _⟩ => rfl
      | ⟨1, _⟩ => rfl
  have hs : val_main_v115 (F := Ideal) x0 x1 x3 x4 (ix2 r o)
      = ∑ f : Fin 128, ∑ j : Fin 7, Spline.recursive (val_main_v0 (F := Ideal) x0 x1 (ix2 r f)) j.val
          * (x3 (ix3 o f j) * x4 (ix2 o f)) := by
    rw [val_main_v115_apply]
    refine (Layer.sum_runs 128 7 _).trans (Finset.sum_congr rfl fun f _ => Finset.sum_congr rfl fun j _ => ?_)
    have hr : r.val < 10000 := r.isLt
    have ho : o.val < 128 := o.isLt
    have hf : f.val < 128 := f.isLt
    have hj : j.val < 7 := j.isLt
    rw [val_main_v112_apply, order3 x0 x1 (ix2 r f), val_main_v114_apply, val_main_v113_apply, val_main_v111_apply,
      val_main_v110_apply, val_main_v109_apply]
    · have e : (r.val * 896 + (j.val + 7 * f.val)) % 7 = j.val := by omega
      have e3 : idx_main_v113 (idx_main_v114 (ridx_main_v115 (ix2 r o) ⟨j.val + 7 * f.val, by omega⟩)) = ix3 o f j := by
        funext a
        refine Fin.ext ?_
        match a with
        | ⟨0, _⟩ => show (o.val * 896 + (j.val + 7 * f.val)) / 896 = o.val; omega
        | ⟨1, _⟩ => show (o.val * 896 + (j.val + 7 * f.val)) / 7 % 128 = f.val; omega
        | ⟨2, _⟩ => show (o.val * 896 + (j.val + 7 * f.val)) % 7 = j.val; omega
      have e4 : idx_main_v109 (idx_main_v110 (ix3 o f j)) = ix2 o f := by
        funext a
        match a with
        | ⟨0, _⟩ => rfl
        | ⟨1, _⟩ => rfl
      rw [e3, e4]
      show Spline.recursive _ ((r.val * 896 + (j.val + 7 * f.val)) % 7) * _ = _
      rw [e]
      rfl
    · show (r.val * 896 + (j.val + 7 * f.val)) / 896 = r.val; omega
    · show (r.val * 896 + (j.val + 7 * f.val)) / 7 % 128 = f.val; omega
  rw [val_main_v117_apply, val_main_v116_apply, val_main_call1_v0_apply, val_main_call1_cst_apply, hb, hs]
  show max _ (Ideal.ofBits .f32 0x00000000#32) = _
  rw [lit_zero]
  rfl

/-- The aggregated features: the adjacency's row against the features' column. -/
theorem aggregate (r : Fin 10000) (f : Fin 128) :
    val_main_v0 (F := Ideal) x0 x1 (ix2 r f) = ∑ n : Fin 10000, x1 (ix2 r n) * x0 (ix2 n f) := by
  rw [val_main_v0_apply]
  refine Finset.sum_congr rfl fun n _ => ?_
  congr 2 <;> (funext a; match a with | ⟨0, _⟩ => rfl | ⟨1, _⟩ => rfl)

/-- The second layer is the first at the first layer's output and its own weights. -/
theorem second (x2 : (⟨S128x128, .f32⟩ : BufTy).Contents (Elt Ideal)) (x3 : (⟨S128x128x7, .f32⟩ : BufTy).Contents (Elt Ideal))
    (x4 x5 : (⟨S128x128, .f32⟩ : BufTy).Contents (Elt Ideal)) (x6 : (⟨S128x128x7, .f32⟩ : BufTy).Contents (Elt Ideal))
    (x7 : (⟨S128x128, .f32⟩ : BufTy).Contents (Elt Ideal)) :
    val_main_v235 (F := Ideal) x0 x1 x2 x3 x4 x5 x6 x7
      = val_main_v117 (F := Ideal) (val_main_v117 (F := Ideal) x0 x1 x2 x3 x4) x1 x5 x6 x7 := rfl

end Cert.ReferenceIdeal.Layers
-- ==== Proof.Values.Array0.lean ====
/-
  What the first kernel leaves in its three arrays, over the extended reals: the copy of the adjacency is the adjacency, the
  aggregated features are the reference's first aggregation, and the output is the reference's first layer.
-/
module

public import proofs.«01_k».proof.Proof.Values.Blocks
public import proofs.«01_k».proof.Proof.Values.Reference
public import Idealize.ShloMosaic.Lib.Pipeline.Value
public import Idealize.ShloMosaic.Lib.Pipeline.ValueKit

@[expose] public section

set_option maxRecDepth 16384

noncomputable section

namespace Cert.KernelIdeal.Layers

open Idealize.ShloMosaic hiding ix2 ix3
open Idealize.ShloMosaic.TcCoe Cert.KernelIdeal Cert.KernelIdeal.Gen
open Idealize.ShloMosaic.ValueIdx (ix2 ix3)
open Idealize.ShloMosaic.Pipeline (Dat)
open Cert.ReferenceIdeal.Read (val_main_v0 val_main_v117)

variable (V : (c : Dev nD) → (b : Ref sig .tc) → Buf (Elt Ideal) ((c : Thread nD τ).loc b)) (c : Dev nD)

/-- Where each window's block lies at each grid point. -/
theorem index0 : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by decide +kernel

/-- Row `r` of the block of grid point `t`. -/
def place0 (t : Fin cfg0.N) (r : Fin 400) : Fin 10000 := ⟨t.val * 400 + r.val, by have := t.isLt; have : cfg0.N = 25 := N_0; omega⟩

theorem blk0_0 (t : Fin cfg0.N) (r : Fin 400) (n : Fin 10000) : blk0 V c 0 t (ix2 r n) = V c main_arg1 (ix2 (place0 t r) n) := by
  unfold blk0 place0
  blk_ext [(index0 t).1]

theorem blk0_1 (t : Fin cfg0.N) (n : Fin 10000) (f : Fin 128) : blk0 V c 1 t (ix2 n f) = V c main_arg0 (ix2 n f) := by
  unfold blk0
  blk_ext [(index0 t).2.1]

theorem blk0_2 (t : Fin cfg0.N) (q : Fin 1024) (o : Fin 128) : blk0 V c 2 t (ix2 q o) = V c main_v25 (ix2 q o) := by
  unfold blk0
  blk_ext [(index0 t).2.2.1]

/-- A block of aggregated features holds rows of the reference's aggregation. -/
theorem pre0_row (t : Fin cfg0.N) (r : Fin 400) (f : Fin 128) :
    pre0 (F := Ideal) (blk0 V c 0 t) (blk0 V c 1 t) (ix2 r f) = val_main_v0 (V c main_arg0) (V c main_arg1) (ix2 (place0 t r) f) := by
  rw [Cert.ReferenceIdeal.Layers.aggregate]
  refine (pre0_apply _ _ r f).trans (Finset.sum_congr rfl fun n _ => ?_)
  rw [blk0_0, blk0_1]

/-- A block of outputs holds rows of the reference's first layer. -/
theorem hid0_row (x2 : Vec Ideal S128x128 .f32) (x3 : Vec Ideal S128x128x7 .f32) (x4 : Vec Ideal S128x128 .f32)
    (hw : ∀ o : Fin 128, Packed (V c main_v25) o (fun f => x2 (ix2 o f)) (fun f j => x3 (ix3 o f j) * x4 (ix2 o f)))
    (t : Fin cfg0.N) (r : Fin 400) (o : Fin 128) :
    hid0 (F := Ideal) (blk0 V c 0 t) (blk0 V c 1 t) (blk0 V c 2 t) (ix2 r o)
      = val_main_v117 (V c main_arg0) (V c main_arg1) x2 x3 x4 (ix2 (place0 t r) o) := by
  rw [Cert.ReferenceIdeal.Layers.layer]
  refine (hid0_apply _ _ _ r o _ _ fun d f q hq => (blk0_2 V c t q o).trans (hw o d f q hq)).trans ?_
  simp only [pre0_row]

/-- The copy of the adjacency. -/
theorem array0_5 : (dat0 V c).arrAt 5 cfg0.N = V c main_arg1 := by
  refine (dat0 V c).arrAt_eq_of_covers 5 _ (by decide +kernel) fun t hf y => ?_
  rw [after0_5, show ((cfg0.win 5).blk t).view.emb y = ix2 (place0 t (y 0)) (y 1) by unfold place0; blk_ext [(index0 t).2.2.2.2.2]]
  exact (congrArg (blk0 V c 0 t) (ValueIdx.eq_ix2 y)).trans (blk0_0 V c t (y 0) (y 1))

/-- The aggregated features. -/
theorem array0_4 : (dat0 V c).arrAt 4 cfg0.N = val_main_v0 (V c main_arg0) (V c main_arg1) := by
  refine (dat0 V c).arrAt_eq_of_covers 4 _ (by decide +kernel) fun t hf y => ?_
  rw [after0_4, show ((cfg0.win 4).blk t).view.emb y = ix2 (place0 t (y 0)) (y 1) by unfold place0; blk_ext [(index0 t).2.2.2.2.1]]
  exact (congrArg (pre0 (F := Ideal) (blk0 V c 0 t) (blk0 V c 1 t)) (ValueIdx.eq_ix2 y)).trans (pre0_row V c t (y 0) (y 1))

/-- The output, when the weights are packed from the layer's weights. -/
theorem array0_3 (x2 : Vec Ideal S128x128 .f32) (x3 : Vec Ideal S128x128x7 .f32) (x4 : Vec Ideal S128x128 .f32)
    (hw : ∀ o : Fin 128, Packed (V c main_v25) o (fun f => x2 (ix2 o f)) (fun f j => x3 (ix3 o f j) * x4 (ix2 o f))) :
    (dat0 V c).arrAt 3 cfg0.N = val_main_v117 (V c main_arg0) (V c main_arg1) x2 x3 x4 := by
  refine (dat0 V c).arrAt_eq_of_covers 3 _ (by decide +kernel) fun t hf y => ?_
  rw [after0_3, show ((cfg0.win 3).blk t).view.emb y = ix2 (place0 t (y 0)) (y 1) by unfold place0; blk_ext [(index0 t).2.2.2.1]]
  exact (congrArg (hid0 (F := Ideal) (blk0 V c 0 t) (blk0 V c 1 t) (blk0 V c 2 t)) (ValueIdx.eq_ix2 y)).trans
    (hid0_row V c x2 x3 x4 hw t (y 0) (y 1))

end Cert.KernelIdeal.Layers

end
-- ==== Proof.Values.Array1.lean ====
/-
  What the second kernel leaves in its two arrays, over the extended reals, when it finds the adjacency and a feature matrix: the
  aggregated features are the reference's aggregation of that matrix, and the output is the reference's layer on it.
-/
module

public import proofs.«01_k».proof.Proof.Values.Array0

@[expose] public section

set_option maxRecDepth 16384

noncomputable section

namespace Cert.KernelIdeal.Layers

open Idealize.ShloMosaic hiding ix2 ix3
open Idealize.ShloMosaic.TcCoe Cert.KernelIdeal Cert.KernelIdeal.Gen
open Idealize.ShloMosaic.ValueIdx (ix2 ix3)
open Idealize.ShloMosaic.Pipeline (Dat)
open Cert.ReferenceIdeal.Read (val_main_v0 val_main_v117)

variable (V : (c : Dev nD) → (b : Ref sig .tc) → Buf (Elt Ideal) ((c : Thread nD τ).loc b)) (c : Dev nD)

/-- Where each window's block lies: the adjacency block read at the point before is the output block of the point. -/
theorem index1 : ∀ t : Fin grid1.N, win1_0.index (prv1 t) = ![t.val - 1, 0] ∧ win1_1.index t = ![0, 0] ∧ win1_2.index t = ![0, 0]
    ∧ win1_3.index t = ![t.val - 1, 0] ∧ win1_4.index t = ![t.val - 1, 0] := by decide +kernel

/-- Row `r` of the output block of grid point `t`. -/
def place1 (t : Fin cfg1.N) (r : Fin 1000) : Fin 10000 :=
  ⟨(t.val - 1) * 1000 + r.val, by have := t.isLt; have : cfg1.N = 11 := N_1; omega⟩

theorem blk1_0 (t : Fin cfg1.N) (r : Fin 1000) (n : Fin 10000) : blk1 V c 0 (prv1 t) (ix2 r n) = V c main_v143_2 (ix2 (place1 t r) n) := by
  unfold blk1 place1
  blk_ext [(index1 t).1]

theorem blk1_1 (t : Fin cfg1.N) (n : Fin 10000) (f : Fin 128) : blk1 V c 1 t (ix2 n f) = V c main_v143_0 (ix2 n f) := by
  unfold blk1
  blk_ext [(index1 t).2.1]

theorem blk1_2 (t : Fin cfg1.N) (q : Fin 1024) (o : Fin 128) : blk1 V c 2 t (ix2 q o) = V c main_v51 (ix2 q o) := by
  unfold blk1
  blk_ext [(index1 t).2.2.1]

variable (x : S10000x128.Idx → EReal) (a : S10000x10000.Idx → EReal) (hx : V c main_v143_0 = x) (ha : V c main_v143_2 = a)

include hx ha in
/-- The product kept from the point before holds rows of the reference's aggregation. -/
theorem dot1_row (t : Fin cfg1.N) (r : Fin 1000) (f : Fin 128) :
    dot1 V c (prv1 t) (ix3 0 r f) = val_main_v0 (F := Ideal) x a (ix2 (place1 t r) f) := by
  rw [Cert.ReferenceIdeal.Layers.aggregate]
  refine (agg1_apply _ _ r f).trans (Finset.sum_congr rfl fun n _ => ?_)
  rw [blk1_0, blk1_1, hx, ha]

include hx ha in
/-- The aggregated features. -/
theorem array1_4 : (dat1 V c).arrAt 4 cfg1.N = val_main_v0 (F := Ideal) x a := by
  refine (dat1 V c).arrAt_eq_of_covers 4 _ (by decide +kernel) fun t hf y => ?_
  rw [after1_4, show ((cfg1.win 4).blk t).view.emb y = ix2 (place1 t (y 0)) (y 1) by unfold place1; blk_ext [(index1 t).2.2.2.2]]
  exact (congrArg (k1_pay2 (F := Ideal) (dot1 V c (prv1 t))) (ValueIdx.eq_ix2 y)).trans
    ((flat_apply _ (y 0) (y 1)).trans (dot1_row V c x a hx ha t (y 0) (y 1)))

include hx ha in
/-- A block of outputs holds rows of the reference's layer. -/
theorem hid1_row (x2 : Vec Ideal S128x128 .f32) (x3 : Vec Ideal S128x128x7 .f32) (x4 : Vec Ideal S128x128 .f32)
    (hw : ∀ o : Fin 128, Packed (V c main_v51) o (fun f => x2 (ix2 o f)) (fun f j => x3 (ix3 o f j) * x4 (ix2 o f)))
    (t : Fin cfg1.N) (r : Fin 1000) (o : Fin 128) :
    hid1 (F := Ideal) (dot1 V c (prv1 t)) (blk1 V c 2 t) (ix2 r o) = val_main_v117 (F := Ideal) x a x2 x3 x4 (ix2 (place1 t r) o) := by
  rw [Cert.ReferenceIdeal.Layers.layer]
  refine (hid1_apply _ _ r o _ _ fun d f q hq => (blk1_2 V c t q o).trans (hw o d f q hq)).trans ?_
  simp only [dot1_row V c x a hx ha]

include hx ha in
/-- The output, when the weights are packed from the layer's weights. -/
theorem array1_3 (x2 : Vec Ideal S128x128 .f32) (x3 : Vec Ideal S128x128x7 .f32) (x4 : Vec Ideal S128x128 .f32)
    (hw : ∀ o : Fin 128, Packed (V c main_v51) o (fun f => x2 (ix2 o f)) (fun f j => x3 (ix3 o f j) * x4 (ix2 o f))) :
    (dat1 V c).arrAt 3 cfg1.N = val_main_v117 (F := Ideal) x a x2 x3 x4 := by
  refine (dat1 V c).arrAt_eq_of_covers 3 _ (by decide +kernel) fun t hf y => ?_
  rw [after1_3, show ((cfg1.win 3).blk t).view.emb y = ix2 (place1 t (y 0)) (y 1) by unfold place1; blk_ext [(index1 t).2.2.2.1]]
  exact (congrArg (hid1 (F := Ideal) (dot1 V c (prv1 t)) (blk1 V c 2 t)) (ValueIdx.eq_ix2 y)).trans
    (hid1_row V c x a hx ha x2 x3 x4 hw t (y 0) (y 1))

end Cert.KernelIdeal.Layers

end
-- ==== Proof.Values.ReferenceOut.lean ====
/-
  The plain-array program's output layer, read at an index: its grid, splines and value over the 384 aggregated
  features of the joined arrays, and those features.
-/
module

public import proofs.«01_k».proof.Proof.Values.Reference

@[expose] public section

set_option maxRecDepth 16384

noncomputable section

namespace Cert.ReferenceIdeal.Layers

open Idealize.ShloMosaic Cert.ReferenceIdeal Cert.ReferenceIdeal.Gen Cert.ReferenceIdeal.Read
open Idealize.ShloMosaic.ValueIdx (ix2 ix3)

/-- The output layer's grid holds knot `i` in column `i`. -/
theorem grid_out (i : S384x11.Idx) : val_main_v248 (F := Ideal) i = (Spline.knot (i 1).val : EReal) := by
  have hi : (i 1).val < 11 := (i 1).isLt
  have e : (((((0 * 1 + 0) * 1 + 0) * 11 + ((i 0).val * 11 + (i 1).val) % 11) % 11 : ℕ)) = (i 1).val := by omega
  rw [val_main_v248_apply, val_main_v247_apply, val_main_v246_apply, val_main_v245_apply, val_main_v244_apply,
    val_main_v242_apply, val_main_v240_apply, val_main_v239_apply, val_main_v241_apply, val_main_v243_apply, val_main_cst_5_apply,
    val_main_cst_6_apply, val_main_cst_7_apply]
  refine Eq.trans ?_ (knot_eq _ hi)
  show (Ideal.ofBits .f32 0xC0400000#32 + (((BitVec.ofNat 32 ((((0 * 1 + 0) * 1 + 0) * 11
    + ((i 0).val * 11 + (i 1).val) % 11) % 11)).toInt : ℝ) : EReal)) * Ideal.ofBits .f32 0x3F000000#32
      - Ideal.ofBits .f32 0x3F800000#32 = _
  rw [e]

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128x128x7, .f32⟩ : BufTy).Contents (Elt Ideal))
  (x4 x5 : (⟨S128x128, .f32⟩ : BufTy).Contents (Elt Ideal)) (x6 : (⟨S128x128x7, .f32⟩ : BufTy).Contents (Elt Ideal))
  (x7 : (⟨S128x128, .f32⟩ : BufTy).Contents (Elt Ideal))

/-- The aggregated features, the column axis repeated once per spline, read at any index of that row and feature. -/
theorem column_out (q : S10000x384.Idx) (p : S10000x384x1.Idx) (h0 : (p 0).val = (q 0).val) (h1 : (p 1).val = (q 1).val) :
    val_main_v252 (F := Ideal) x0 x1 x2 x3 x4 x5 x6 x7 p = val_main_v237 (F := Ideal) x0 x1 x2 x3 x4 x5 x6 x7 q := by
  rw [val_main_v252_apply]
  refine congrArg _ (funext fun a => Fin.ext ?_)
  match a with
  | ⟨0, _⟩ => exact h0
  | ⟨1, _⟩ => exact h1

/-- The output layer's splines of order zero. -/
theorem order0_out (q : S10000x384.Idx) (i : S10000x384x10.Idx) (h0 : (i 0).val = (q 0).val) (h1 : (i 1).val = (q 1).val) :
    val_main_v264 (F := Ideal) x0 x1 x2 x3 x4 x5 x6 x7 i = Spline.box (val_main_v237 (F := Ideal) x0 x1 x2 x3 x4 x5 x6 x7 q) (i 2).val := by
  rw [val_main_v264_apply, val_main_v263_apply, val_main_v257_apply, val_main_v262_apply, val_main_v255_apply,
    val_main_v260_apply, val_main_v256_apply, val_main_v261_apply, val_main_v254_apply, val_main_v259_apply,
    val_main_v253_apply, val_main_v258_apply, grid_out, grid_out, column_out x0 x1 x2 x3 x4 x5 x6 x7 q]
  · exact indicator _ _ _
  all_goals first | exact h0 | exact h1

/-- The output layer's splines of order one. -/
theorem order1_out (q : S10000x384.Idx) (i : S10000x384x9.Idx) (h0 : (i 0).val = (q 0).val) (h1 : (i 1).val = (q 1).val) :
    val_main_v291 (F := Ideal) x0 x1 x2 x3 x4 x5 x6 x7 i
      = Spline.step 1 (val_main_v237 (F := Ideal) x0 x1 x2 x3 x4 x5 x6 x7 q) (Spline.box (val_main_v237 (F := Ideal) x0 x1 x2 x3 x4 x5 x6 x7 q)) (i 2).val := by
  rw [val_main_v291_apply, val_main_v277_apply, val_main_v290_apply, val_main_v275_apply, val_main_v288_apply,
    val_main_v269_apply, val_main_v282_apply, val_main_v274_apply, val_main_v287_apply, val_main_v273_apply,
    val_main_v286_apply, val_main_v272_apply, val_main_v285_apply, val_main_v267_apply, val_main_v281_apply,
    val_main_v268_apply, val_main_v280_apply, val_main_v266_apply, val_main_v279_apply, val_main_v265_apply,
    val_main_v278_apply, val_main_v270_apply, val_main_v271_apply, val_main_v283_apply, val_main_v284_apply,
    val_main_v276_apply, val_main_v289_apply, order0_out x0 x1 x2 x3 x4 x5 x6 x7 q, order0_out x0 x1 x2 x3 x4 x5 x6 x7 q, column_out x0 x1 x2 x3 x4 x5 x6 x7 q]
  · simp only [grid_out]; rfl
  all_goals first | exact h0 | exact h1

/-- The output layer's splines of order two. -/
theorem order2_out (q : S10000x384.Idx) (i : S10000x384x8.Idx) (h0 : (i 0).val = (q 0).val) (h1 : (i 1).val = (q 1).val) :
    val_main_v318 (F := Ideal) x0 x1 x2 x3 x4 x5 x6 x7 i
      = Spline.step 2 (val_main_v237 (F := Ideal) x0 x1 x2 x3 x4 x5 x6 x7 q) (Spline.step 1 (val_main_v237 (F := Ideal) x0 x1 x2 x3 x4 x5 x6 x7 q)
          (Spline.box (val_main_v237 (F := Ideal) x0 x1 x2 x3 x4 x5 x6 x7 q))) (i 2).val := by
  rw [val_main_v318_apply, val_main_v304_apply, val_main_v317_apply, val_main_v302_apply, val_main_v315_apply,
    val_main_v296_apply, val_main_v309_apply, val_main_v301_apply, val_main_v314_apply, val_main_v300_apply,
    val_main_v313_apply, val_main_v299_apply, val_main_v312_apply, val_main_v294_apply, val_main_v308_apply,
    val_main_v295_apply, val_main_v307_apply, val_main_v293_apply, val_main_v306_apply, val_main_v292_apply,
    val_main_v305_apply, val_main_v297_apply, val_main_v298_apply, val_main_v310_apply, val_main_v311_apply,
    val_main_v303_apply, val_main_v316_apply, order1_out x0 x1 x2 x3 x4 x5 x6 x7 q, order1_out x0 x1 x2 x3 x4 x5 x6 x7 q, column_out x0 x1 x2 x3 x4 x5 x6 x7 q]
  · simp only [grid_out]; rfl
  all_goals first | exact h0 | exact h1

/-- The output layer's cubic splines are the recursion's, at the aggregated feature. -/
theorem order3_out (q : S10000x384.Idx) (i : S10000x384x7.Idx) (h0 : (i 0).val = (q 0).val) (h1 : (i 1).val = (q 1).val) :
    val_main_v345 (F := Ideal) x0 x1 x2 x3 x4 x5 x6 x7 i = Spline.recursive (val_main_v237 (F := Ideal) x0 x1 x2 x3 x4 x5 x6 x7 q) (i 2).val := by
  rw [val_main_v345_apply, val_main_v331_apply, val_main_v344_apply, val_main_v329_apply, val_main_v342_apply,
    val_main_v323_apply, val_main_v336_apply, val_main_v328_apply, val_main_v341_apply, val_main_v327_apply,
    val_main_v340_apply, val_main_v326_apply, val_main_v339_apply, val_main_v321_apply, val_main_v335_apply,
    val_main_v322_apply, val_main_v334_apply, val_main_v320_apply, val_main_v333_apply, val_main_v319_apply,
    val_main_v332_apply, val_main_v324_apply, val_main_v325_apply, val_main_v337_apply, val_main_v338_apply,
    val_main_v330_apply, val_main_v343_apply, order2_out x0 x1 x2 x3 x4 x5 x6 x7 q, order2_out x0 x1 x2 x3 x4 x5 x6 x7 q, column_out x0 x1 x2 x3 x4 x5 x6 x7 q]
  · simp only [grid_out]; rfl
  all_goals first | exact h0 | exact h1

/-- The output layer's base features are the silu of the aggregated features. -/
theorem base_out (i : S10000x384.Idx) :
    val_main_v249 (F := Ideal) x0 x1 x2 x3 x4 x5 x6 x7 i = Layer.silu (val_main_v237 (F := Ideal) x0 x1 x2 x3 x4 x5 x6 x7 i) := by
  rw [val_main_v249_apply, val_main_call4_v5_apply, val_main_call4_v4_apply, val_main_call4_v3_apply,
    val_main_call4_v2_apply, val_main_call4_v1_apply, val_main_call4_v0_apply, val_main_call4_cst_apply,
    val_main_call4_cst_0_apply]
  show val_main_v237 (F := Ideal) x0 x1 x2 x3 x4 x5 x6 x7 i * Ideal.div (Ideal.ofBits .f32 0x3F800000#32)
    (Ideal.ofBits .f32 0x3F800000#32 + Ideal.exp (-(val_main_v237 (F := Ideal) x0 x1 x2 x3 x4 x5 x6 x7 i))) = _
  rw [lit_one]
  rfl

/-- The output layer: the layer's value over the row's aggregated features, cut off below at zero. -/
theorem layer_out (x8 : (⟨S64x384, .f32⟩ : BufTy).Contents (Elt Ideal)) (x9 : (⟨S64x384x7, .f32⟩ : BufTy).Contents (Elt Ideal))
    (x10 : (⟨S64x384, .f32⟩ : BufTy).Contents (Elt Ideal)) (r : Fin 10000) (o : Fin 64) :
    val_main_v354 (F := Ideal) x0 x1 x2 x3 x4 x5 x6 x7 x8 x9 x10 (ix2 r o)
      = max (Layer.kan (fun f : Fin 384 => val_main_v237 (F := Ideal) x0 x1 x2 x3 x4 x5 x6 x7 (ix2 r f)) (fun f => x8 (ix2 o f))
          (fun f j => x9 (ix3 o f j) * x10 (ix2 o f))) 0 := by
  have hb : val_main_v251 (F := Ideal) x0 x1 x2 x3 x4 x5 x6 x7 x8 (ix2 r o)
      = ∑ f : Fin 384, Layer.silu (val_main_v237 (F := Ideal) x0 x1 x2 x3 x4 x5 x6 x7 (ix2 r f)) * x8 (ix2 o f) := by
    rw [val_main_v251_apply]
    refine Finset.sum_congr rfl fun f _ => ?_
    rw [base_out, val_main_v250_apply]
    congr 2
    · refine congrArg _ (funext fun a => ?_)
      match a with
      | ⟨0, _⟩ => rfl
      | ⟨1, _⟩ => rfl
    · funext a
      match a with
      | ⟨0, _⟩ => rfl
      | ⟨1, _⟩ => rfl
  have hs : val_main_v352 (F := Ideal) x0 x1 x2 x3 x4 x5 x6 x7 x9 x10 (ix2 r o)
      = ∑ f : Fin 384, ∑ j : Fin 7, Spline.recursive (val_main_v237 (F := Ideal) x0 x1 x2 x3 x4 x5 x6 x7 (ix2 r f)) j.val
          * (x9 (ix3 o f j) * x10 (ix2 o f)) := by
    rw [val_main_v352_apply]
    refine (Layer.sum_runs 384 7 _).trans (Finset.sum_congr rfl fun f _ => Finset.sum_congr rfl fun j _ => ?_)
    have hr : r.val < 10000 := r.isLt
    have ho : o.val < 64 := o.isLt
    have hf : f.val < 384 := f.isLt
    have hj : j.val < 7 := j.isLt
    rw [val_main_v349_apply, order3_out x0 x1 x2 x3 x4 x5 x6 x7 (ix2 r f), val_main_v351_apply, val_main_v350_apply, val_main_v348_apply,
      val_main_v347_apply, val_main_v346_apply]
    · have e : (r.val * 2688 + (j.val + 7 * f.val)) % 7 = j.val := by omega
      have e3 : idx_main_v350 (idx_main_v351 (ridx_main_v352 (ix2 r o) ⟨j.val + 7 * f.val, by omega⟩)) = ix3 o f j := by
        funext a
        refine Fin.ext ?_
        match a with
        | ⟨0, _⟩ => show (o.val * 2688 + (j.val + 7 * f.val)) / 2688 = o.val; omega
        | ⟨1, _⟩ => show (o.val * 2688 + (j.val + 7 * f.val)) / 7 % 384 = f.val; omega
        | ⟨2, _⟩ => show (o.val * 2688 + (j.val + 7 * f.val)) % 7 = j.val; omega
      have e4 : idx_main_v346 (idx_main_v347 (ix3 o f j)) = ix2 o f := by
        funext a
        match a with
        | ⟨0, _⟩ => rfl
        | ⟨1, _⟩ => rfl
      rw [e3, e4]
      show Spline.recursive _ ((r.val * 2688 + (j.val + 7 * f.val)) % 7) * _ = _
      rw [e]
      rfl
    · show (r.val * 2688 + (j.val + 7 * f.val)) / 2688 = r.val; omega
    · show (r.val * 2688 + (j.val + 7 * f.val)) / 7 % 384 = f.val; omega
  rw [val_main_v354_apply, val_main_v353_apply, val_main_call5_v0_apply, val_main_call5_cst_apply, hb, hs]
  show max _ (Ideal.ofBits .f32 0x00000000#32) = _
  rw [lit_zero]
  rfl

/-- The joined arrays read in run `c` of 128 columns: the features, the first layer's output, the second layer's. -/
theorem joined (n : Fin 10000) (c : Fin 3) (f : Fin 128) (q : Fin 384) (hq : q.val = f.val + 128 * c.val) :
    val_main_v236 (F := Ideal) x0 x1 x2 x3 x4 x5 x6 x7 (ix2 n q)
      = (![x0, val_main_v117 (F := Ideal) x0 x1 x2 x3 x4, val_main_v235 (F := Ideal) x0 x1 x2 x3 x4 x5 x6 x7] :
          Fin 3 → S10000x128.Idx → EReal) c (ix2 n f) := by
  have side : ∀ b : Fin S10000x128.rank, b.cast (rfl : S10000x128.rank = S10000x384.rank) ≠ 1 →
      (ix2 n f b).val = (ix2 n q (b.cast (rfl : S10000x128.rank = S10000x384.rank))).val := by
    intro b hb
    match b with
    | ⟨0, _⟩ => rfl
    | ⟨1, _⟩ => exact absurd rfl hb
  unfold val_main_v236
  fin_cases c
  · refine concatenate_apply_piece (t := S10000x384) 1 _ _ (ix2 n q) 0 ?_ S10000x128 _ rfl rfl 0 rfl (ix2 n f) side ?_
    · show 0 < 3; decide
    · show 0 + f.val = q.val
      have hq' : q.val = f.val + 128 * 0 := hq
      omega
  · refine concatenate_apply_piece (t := S10000x384) 1 _ _ (ix2 n q) 1 ?_ S10000x128 _ rfl rfl 128 rfl (ix2 n f) side ?_
    · show 1 < 3; decide
    · show 128 + f.val = q.val
      have hq' : q.val = f.val + 128 * 1 := hq
      omega
  · refine concatenate_apply_piece (t := S10000x384) 1 _ _ (ix2 n q) 2 ?_ S10000x128 _ rfl rfl 256 rfl (ix2 n f) side ?_
    · show 2 < 3; decide
    · show 256 + f.val = q.val
      have hq' : q.val = f.val + 128 * 2 := hq
      omega

/-- The aggregated features of the output layer, in run `c`: the adjacency's row against that array's column. -/
theorem aggregate_out (r : Fin 10000) (c : Fin 3) (f : Fin 128) (q : Fin 384) (hq : q.val = f.val + 128 * c.val) :
    val_main_v237 (F := Ideal) x0 x1 x2 x3 x4 x5 x6 x7 (ix2 r q)
      = val_main_v0 (F := Ideal) ((![x0, val_main_v117 (F := Ideal) x0 x1 x2 x3 x4,
          val_main_v235 (F := Ideal) x0 x1 x2 x3 x4 x5 x6 x7] : Fin 3 → S10000x128.Idx → EReal) c) x1 (ix2 r f) := by
  rw [val_main_v237_apply, aggregate]
  refine Finset.sum_congr rfl fun n _ => ?_
  rw [← joined x0 x1 x2 x3 x4 x5 x6 x7 n c f q hq]
  congr 2 <;> (funext a; match a with | ⟨0, _⟩ => rfl | ⟨1, _⟩ => rfl)

end Cert.ReferenceIdeal.Layers
-- ==== Proof.Values.Array2.lean ====
/-
  What the third kernel leaves in the result array, over the extended reals, when it finds the aggregated features of the first
  two inputs, the second layer's output, the adjacency and the packed weights: the reference's result.
-/
module

public import proofs.«01_k».proof.Proof.Values.Array1
public import proofs.«01_k».proof.Proof.Values.ReferenceOut

@[expose] public section

set_option maxRecDepth 16384

noncomputable section

namespace Cert.KernelIdeal.Layers

open Idealize.ShloMosaic hiding ix2 ix3
open Idealize.ShloMosaic.TcCoe Cert.KernelIdeal Cert.KernelIdeal.Gen
open Idealize.ShloMosaic.ValueIdx (ix2 ix3)
open Idealize.ShloMosaic.Pipeline (Dat)
open Cert.ReferenceIdeal.Read (val_main_v0 val_main_v117 val_main_v235 val_main_v237 val_main_v354)

/-- The `d`-th slice of three stacked weight matrices is packed when its entries are. -/
theorem packed_slice (w : Vec Ideal S3x1024x64 .f32) (d : Fin 3) (off : Fin 3 → ℕ) (inb : ∀ a, off a + S1x1024x64.size a ≤ S3x1024x64.size a)
    (h0 : off 0 = d.val) (h1 : off 1 = 0) (h2 : off 2 = 0) (o : Fin 64) (bw : Fin 128 → EReal) (sw : Fin 128 → Fin 7 → EReal)
    (hw : ∀ (c : Fin 8) (f : Fin 128) (q : Fin 1024), q.val = f.val + 128 * c.val → w (ix3 d q o) = Layer.weight (bw f) (sw f) c) :
    Packed (shapeCast S1024x64 (View.ld w (Rect.unit (s := S3x1024x64) off S1x1024x64.size inb)) shapeCasts_S1x1024x64_S1024x64) o bw sw := by
  intro c f q hq
  refine (slice_apply _ q o).trans (Eq.trans ?_ (hw c f q hq))
  refine View.ld_unit_apply_of w off _ inb _ _ fun a => ?_
  match a with
  | ⟨0, _⟩ => show d.val = off 0 + 0; omega
  | ⟨1, _⟩ => show q.val = off 1 + q.val; omega
  | ⟨2, _⟩ => show o.val = off 2 + o.val; omega

/-- The third kernel's output: the three shares' sum, cut off below at zero. -/
theorem out2_apply (x : Vec Ideal S1x1000x128 .f32) (w : Vec Ideal S3x1024x64 .f32) (p1 p2 : Vec Ideal S1000x128 .f32) (r : Fin 1000)
    (o : Fin 64) (bw : Fin 3 → Fin 128 → EReal) (sw : Fin 3 → Fin 128 → Fin 7 → EReal)
    (hw : ∀ (d : Fin 3) (c : Fin 8) (f : Fin 128) (q : Fin 1024), q.val = f.val + 128 * c.val → w (ix3 d q o) = Layer.weight (bw d f) (sw d f) c) :
    out2 (F := Ideal) x w p1 p2 (ix2 r o)
      = max (Layer.kan (fun f => p1 (ix2 r f)) (bw 0) (sw 0) + Layer.kan (fun f => p2 (ix2 r f)) (bw 1) (sw 1)
          + Layer.kan (fun f => x (ix3 0 r f)) (bw 2) (sw 2)) 0 := by
  unfold out2
  rw [outC_apply, outB_apply, outA_apply,
    share_apply _ _ r o (bw 0) (sw 0) (packed_slice w 0 ![0, 0, 0] inb_S3x1024x64_S1x1024x64_0_0_0 rfl rfl rfl o _ _ (hw 0)),
    share_apply _ _ r o (bw 1) (sw 1) (packed_slice w 1 ![1, 0, 0] inb_S3x1024x64_S1x1024x64_1_0_0 rfl rfl rfl o _ _ (hw 1)),
    share_apply _ _ r o (bw 2) (sw 2) (packed_slice w 2 ![2, 0, 0] inb_S3x1024x64_S1x1024x64_2_0_0 rfl rfl rfl o _ _ (hw 2)), word0, EReal.coe_zero]
  simp only [flat_apply]

variable (V : (c : Dev nD) → (b : Ref sig .tc) → Buf (Elt Ideal) ((c : Thread nD τ).loc b)) (c : Dev nD)

/-- Where each window's block lies: the adjacency block read at the point before is the output block of the point. -/
theorem index2 : ∀ t : Fin grid2.N, win2_0.index (prv2 t) = ![t.val - 1, 0] ∧ win2_1.index t = ![0, 0] ∧ win2_2.index t = ![0, 0, 0]
    ∧ win2_3.index t = ![t.val - 1, 0] ∧ win2_4.index t = ![t.val - 1, 0] ∧ win2_5.index t = ![t.val - 1, 0] := by decide +kernel

/-- Row `r` of the output block of grid point `t`. -/
def place2 (t : Fin cfg2.N) (r : Fin 1000) : Fin 10000 :=
  ⟨(t.val - 1) * 1000 + r.val, by have := t.isLt; have : cfg2.N = 11 := N_2; omega⟩

theorem blk2_0 (t : Fin cfg2.N) (r : Fin 1000) (n : Fin 10000) : blk2 V c 0 (prv2 t) (ix2 r n) = V c main_v143_2 (ix2 (place2 t r) n) := by
  unfold blk2 place2
  blk_ext [(index2 t).1]

theorem blk2_1 (t : Fin cfg2.N) (n : Fin 10000) (f : Fin 128) : blk2 V c 1 t (ix2 n f) = V c main_v144_0 (ix2 n f) := by
  unfold blk2
  blk_ext [(index2 t).2.1]

theorem blk2_2 (t : Fin cfg2.N) (d : Fin 3) (q : Fin 1024) (o : Fin 64) : blk2 V c 2 t (ix3 d q o) = V c main_v142 (ix3 d q o) := by
  unfold blk2
  blk_ext [(index2 t).2.2.1]

theorem blk2_3 (t : Fin cfg2.N) (r : Fin 1000) (f : Fin 128) : blk2 V c 3 t (ix2 r f) = V c main_v143_1 (ix2 (place2 t r) f) := by
  unfold blk2 place2
  blk_ext [(index2 t).2.2.2.1]

theorem blk2_4 (t : Fin cfg2.N) (r : Fin 1000) (f : Fin 128) : blk2 V c 4 t (ix2 r f) = V c main_v144_1 (ix2 (place2 t r) f) := by
  unfold blk2 place2
  blk_ext [(index2 t).2.2.2.2.1]

/-- Feature `f` of the `d`-th of the three joined feature matrices. -/
def joint (d : Fin 3) (f : Fin 128) : Fin 384 := ⟨f.val + 128 * d.val, by omega⟩

variable (x0 : S10000x128.Idx → EReal) (x1 : S10000x10000.Idx → EReal) (x2 : Vec Ideal S128x128 .f32) (x3 : Vec Ideal S128x128x7 .f32)
  (x4 x5 : Vec Ideal S128x128 .f32) (x6 : Vec Ideal S128x128x7 .f32) (x7 : Vec Ideal S128x128 .f32)
  (x8 : Vec Ideal S64x384 .f32) (x9 : Vec Ideal S64x384x7 .f32) (x10 : Vec Ideal S64x384 .f32)
  (ha : V c main_v143_2 = x1) (hh : V c main_v144_0 = val_main_v235 (F := Ideal) x0 x1 x2 x3 x4 x5 x6 x7)
  (hp : V c main_v143_1 = val_main_v0 (F := Ideal) x0 x1)
  (hq : V c main_v144_1 = val_main_v0 (F := Ideal) (val_main_v117 (F := Ideal) x0 x1 x2 x3 x4) x1)
  (hw : ∀ (o : Fin 64) (d : Fin 3) (k : Fin 8) (f : Fin 128) (q : Fin 1024), q.val = f.val + 128 * k.val →
    V c main_v142 (ix3 d q o) = Layer.weight (x8 (ix2 o (joint d f))) (fun j => x9 (ix3 o (joint d f) j) * x10 (ix2 o (joint d f))) k)

include ha hh in
/-- The product kept from the point before holds rows of the reference's aggregation of the second layer's output. -/
theorem dot2_row (t : Fin cfg2.N) (r : Fin 1000) (f : Fin 128) :
    dot2 V c (prv2 t) (ix3 0 r f) = val_main_v0 (F := Ideal) (val_main_v235 (F := Ideal) x0 x1 x2 x3 x4 x5 x6 x7) x1 (ix2 (place2 t r) f) := by
  rw [Cert.ReferenceIdeal.Layers.aggregate]
  unfold dot2
  rw [agg2_eq]
  refine (agg1_apply _ _ r f).trans (Finset.sum_congr rfl fun n _ => ?_)
  rw [blk2_0, blk2_1, ha, hh]

include ha hh hp hq hw in
/-- A block of outputs holds rows of the reference's result. -/
theorem out2_row (t : Fin cfg2.N) (r : Fin 1000) (o : Fin 64) :
    out2 (F := Ideal) (dot2 V c (prv2 t)) (blk2 V c 2 t) (blk2 V c 3 t) (blk2 V c 4 t) (ix2 r o)
      = val_main_v354 (F := Ideal) x0 x1 x2 x3 x4 x5 x6 x7 x8 x9 x10 (ix2 (place2 t r) o) := by
  rw [Cert.ReferenceIdeal.Layers.layer_out,
    Layer.kan_three (n := 128) _ _ _ joint (fun _ _ => rfl)]
  refine (out2_apply _ _ _ _ r o _ _ fun d k f q h => (blk2_2 V c t d q o).trans (hw o d k f q h)).trans ?_
  simp only [blk2_3, blk2_4, hp, hq, dot2_row V c x0 x1 x2 x3 x4 x5 x6 x7 ha hh,
    fun d f => Cert.ReferenceIdeal.Layers.aggregate_out x0 x1 x2 x3 x4 x5 x6 x7 (place2 t r) d f (joint d f) rfl]
  rfl

include ha hh hp hq hw in
/-- The result array. -/
theorem array2_5 : (dat2 V c).arrAt 5 cfg2.N = val_main_v354 (F := Ideal) x0 x1 x2 x3 x4 x5 x6 x7 x8 x9 x10 := by
  refine (dat2 V c).arrAt_eq_of_covers 5 _ (by decide +kernel) fun t hf y => ?_
  rw [after2_5, show ((cfg2.win 5).blk t).view.emb y = ix2 (place2 t (y 0)) (y 1) by unfold place2; blk_ext [(index2 t).2.2.2.2.2]]
  exact (congrArg (out2 (F := Ideal) (dot2 V c (prv2 t)) (blk2 V c 2 t) (blk2 V c 3 t) (blk2 V c 4 t)) (ValueIdx.eq_ix2 y)).trans
    (out2_row V c x0 x1 x2 x3 x4 x5 x6 x7 x8 x9 x10 ha hh hp hq hw t (y 0) (y 1))

end Cert.KernelIdeal.Layers

end
-- ==== Proof.Values.Result.lean ====
/-
  The kernel's result array, over the extended reals, is the reference's result of the same arguments.
-/
module

public import proofs.«01_k».proof.Proof.Values.Weights
public import proofs.«01_k».proof.Proof.Values.Array2

@[expose] public section

set_option maxRecDepth 16384

noncomputable section

namespace Cert.KernelIdeal.Layers

open Idealize.ShloMosaic hiding ix2 ix3
open Idealize.ShloMosaic.TcCoe Cert.KernelIdeal Cert.KernelIdeal.Gen
open Idealize.ShloMosaic.ValueIdx (ix2 ix3)
open Cert.ReferenceIdeal.Read (val_main_v0 val_main_v117 val_main_v235 val_main_v354)

variable (m : (ℓ : Loc nD τ sig) → Buf (Elt Ideal) ℓ) (c : Dev nD)

/-- An argument as launched. -/
abbrev arg (r : Ref sig .tc) : Buf (Elt Ideal) ((c : Thread nD τ).loc r) := m ((c : Thread nD τ).loc r)

/-- After the first kernel: the first layer's output. -/
theorem W2_out : W2 m c (Proc.devRef .tc main_v143_0)
    = val_main_v117 (F := Ideal) (arg m c main_arg0) (arg m c main_arg1) (arg m c main_arg2) (arg m c main_arg3) (arg m c main_arg4) := by
  refine (leave_arr 0 launch0 (W1 m) (dat0 (rd (W1 m))) c 3).trans ((array0_3 (rd (W1 m)) c _ _ _
    fun o => weights1 (W0 m c) _ _ _ rfl rfl rfl o).trans ?_)
  rw [show rd (W1 m) c main_arg0 = arg m c main_arg0 from W1_of m c main_arg0 (by decide),
    show rd (W1 m) c main_arg1 = arg m c main_arg1 from W1_of m c main_arg1 (by decide)]

/-- After the first kernel: the first aggregation. -/
theorem W2_pre : W2 m c (Proc.devRef .tc main_v143_1) = val_main_v0 (F := Ideal) (arg m c main_arg0) (arg m c main_arg1) := by
  refine (leave_arr 0 launch0 (W1 m) (dat0 (rd (W1 m))) c 4).trans ((array0_4 (rd (W1 m)) c).trans ?_)
  rw [show rd (W1 m) c main_arg0 = arg m c main_arg0 from W1_of m c main_arg0 (by decide),
    show rd (W1 m) c main_arg1 = arg m c main_arg1 from W1_of m c main_arg1 (by decide)]

/-- After the first kernel: the copy of the adjacency. -/
theorem W2_adj : W2 m c (Proc.devRef .tc main_v143_2) = arg m c main_arg1 :=
  (leave_arr 0 launch0 (W1 m) (dat0 (rd (W1 m))) c 5).trans ((array0_5 (rd (W1 m)) c).trans (W1_of m c main_arg1 (by decide)))

/-- After the second kernel: the second layer's output. -/
theorem W3_out : W3 m c (Proc.devRef .tc main_v144_0)
    = val_main_v235 (F := Ideal) (arg m c main_arg0) (arg m c main_arg1) (arg m c main_arg2) (arg m c main_arg3) (arg m c main_arg4)
        (arg m c main_arg5) (arg m c main_arg6) (arg m c main_arg7) := by
  rw [Cert.ReferenceIdeal.Layers.second]
  refine (leave_arr 1 launch1 (W2 m) (dat1 (rd (W2 m))) c 3).trans (array1_3 (rd (W2 m)) c _ _ (W2_out m c) (W2_adj m c) _ _ _ fun o => ?_)
  rw [show rd (W2 m) c main_v51 = W1 m c (Proc.devRef .tc main_v51) from W2_of m c main_v51 (by decide)]
  exact weights2 (W0 m c) _ _ _ rfl rfl rfl o

/-- After the second kernel: the second aggregation. -/
theorem W3_pre : W3 m c (Proc.devRef .tc main_v144_1)
    = val_main_v0 (F := Ideal) (val_main_v117 (F := Ideal) (arg m c main_arg0) (arg m c main_arg1) (arg m c main_arg2) (arg m c main_arg3)
        (arg m c main_arg4)) (arg m c main_arg1) :=
  (leave_arr 1 launch1 (W2 m) (dat1 (rd (W2 m))) c 4).trans (array1_4 (rd (W2 m)) c _ _ (W2_out m c) (W2_adj m c))

/-- After the third kernel: the reference's result. -/
theorem W4_out : W4 m c (Proc.devRef .tc main_v145)
    = val_main_v354 (F := Ideal) (arg m c main_arg0) (arg m c main_arg1) (arg m c main_arg2) (arg m c main_arg3) (arg m c main_arg4)
        (arg m c main_arg5) (arg m c main_arg6) (arg m c main_arg7) (arg m c main_arg8) (arg m c main_arg9) (arg m c main_arg10) := by
  refine (leave_arr 2 launch2 (W3 m) (dat2 (rd (W3 m))) c 5).trans (array2_5 (rd (W3 m)) c _ _ _ _ _ _ _ _ _ _ _ ?_ (W3_out m c) ?_
    (W3_pre m c) ?_)
  · exact (W3_of m c main_v143_2 (by decide)).trans (W2_adj m c)
  · exact (W3_of m c main_v143_1 (by decide)).trans (W2_pre m c)
  · intro o d k f q hq
    rw [show rd (W3 m) c main_v142 = W1 m c (Proc.devRef .tc main_v142) from
      (W3_of m c main_v142 (by decide)).trans (W2_of m c main_v142 (by decide))]
    exact weights3 (W0 m c) _ _ _ rfl rfl rfl joint (fun _ _ => rfl) o d k f q hq

end Cert.KernelIdeal.Layers

end
-- ==== Proof.lean ====
/-
  The claim: the three frames, the named constant, and the equation of kernel and reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Values.Result
public import Idealize.ShloMosaic.Adequacy
public import Idealize.ShloMosaic.Init

@[expose] public section

set_option maxRecDepth 16384

noncomputable section

namespace Cert.Proof

open Idealize.ShloMosaic Idealize.ShloMosaic.StableHlo Idealize.SL.Sem Cert.Kernel

/-- The kernel at machine formats: the arguments end as launched and every counter is zero. -/
theorem frame_kernel : Cert.quiescent_Kernel (hKernel := Cert.Kernel.Gen.facts) := fun m ρ _ =>
  (θ_run _ _ _).mono (fun _ h => ⟨fun c => (h.1 c).2, h.2⟩) (Cert.Kernel.Layers.run_result (F := Bits) m ρ)

/-- The kernel over the extended reals: the same. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Layers.run_result (F := Ideal) m ρ)

/-- The reference over the extended reals: the same. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- Naming the constant one sixth: the float word it replaces is its rounding. -/
theorem preserves : Cert.preserves_Kernel_KernelIdeal :=
  IdealRules.named_const.statement Cert.KernelIdeal.κ "sixth" .f32 0x3E2AAAAB#32 _ rfl

/-- From the same arguments, over the extended reals, kernel and reference end with the same result array. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Layers.W4 m c (Proc.devRef .tc Cert.KernelIdeal.main_v145),
    (θ_run _ _ _).mono (fun _ h => h.1) (Cert.KernelIdeal.Layers.run_result (F := Ideal) m ρ),
    (θ_run _ _ _).mono (fun _ h c => ⟨(h c).1.trans ((Cert.ReferenceIdeal.Read.val_main_v354_eq (launchContents m' c)).trans (by
      obtain ⟨h0, h1, h2, h3, h4, h5, h6, h7, h8, h9, h10⟩ := hm c
      simp only [launchContents_devRef, h0, h1, h2, h3, h4, h5, h6, h7, h8, h9, h10]
      exact (Cert.KernelIdeal.Layers.W4_out m c).symm)), (h c).2⟩) (Cert.ReferenceIdeal.Value.run (F := Ideal) m' ρ')⟩

/-- Everything certified. -/
theorem claim : Cert.Claim := ⟨Cert.Kernel.Gen.facts, Cert.KernelIdeal.Gen.facts, Cert.ReferenceIdeal.Gen.facts,
  frame_kernel, frame_ideal, frame_reference, preserves, algebraic⟩

end Cert.Proof

end
